-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v361) = v0 c
          ∧ r.2.mem ((c.tc : Thread Cert.ReferenceIdeal.nD Cert.ReferenceIdeal.τ).loc Cert.ReferenceIdeal.main_v356) = v1 c
          ∧ r.2.mem ((c.tc : Thread Cert.ReferenceIdeal.nD Cert.ReferenceIdeal.τ).loc Cert.ReferenceIdeal.main_v341) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x1024 : Shape := ⟨3, ![2, 2048, 1024]⟩
abbrev S3x1024x1024 : Shape := ⟨3, ![3, 1024, 1024]⟩
abbrev S3x1024 : Shape := ⟨2, ![3, 1024]⟩
abbrev S1024x4 : Shape := ⟨2, ![1024, 4]⟩
abbrev S4 : Shape := ⟨1, ![4]⟩
abbrev S4x1024x1024 : Shape := ⟨3, ![4, 1024, 1024]⟩
abbrev S4x1024 : Shape := ⟨2, ![4, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S3x1024x1024 : S_.BroadcastsInDim S3x1024x1024 (![] : Fin 0 → Fin S3x1024x1024.rank)
  reducesTo_S3x1024x1024_S_d0_1_2 : S3x1024x1024.ReducesTo [0, 1, 2] S_

variable [Facts]

def fn_part3 {F : FTy → Type} [FloatOps F] (main_arg15 : FVec F S3x1024 .f32) (main_v48 : IVec S_ 1) (main_v49 : FVec F S3x1024 .f32) (main_v50 : FVec F S3x1024 .f32) : IVec S_ 1 :=
  let main_v51 : IVec S3x1024 1 := cmpf .olt main_v49 main_v50
  let main_c_19 : IVec S_ 1 := constantI S_ 1 1#1
  let main_v52 : IVec S_ 1 := (fun x v => Host.reduce IntOp.andi x v reducesTo_S3x1024_S_d0_1 h_S_) main_v51 main_c_19
  let main_v53 : IVec S_ 1 := andi main_v48 main_v52
  let main_v54 : FVec F S3x1024 .f32 := Host.absf main_arg15
  let main_cst_20 : FVec F S_ .f32 := constant S_ .f32 0x7F800000#32
  let main_v55 : FVec F S3x1024 .f32 := broadcastInDim S3x1024 ![] bcast_S_S3x1024 main_cst_20
  let main_v56 : IVec S3x1024 1 := cmpf .olt main_v54 main_v55
  let main_c_21 : IVec S_ 1 := constantI S_ 1 1#1
  let main_v57 : IVec S_ 1 := (fun x v => Host.reduce IntOp.andi x v reducesTo_S3x1024_S_d0_1 h_S_) main_v56 main_c_21
  let main_v58 : IVec S_ 1 := andi main_v53 main_v57
  main_v58

def fn_part2 {F : FTy → Type} [FloatOps F] (main_arg11 : FVec F S3x1024 .f32) (main_arg12 : FVec F S3x1024x1024 .f32) (main_arg13 : FVec F S3x1024 .f32) (main_arg14 : FVec F S3x1024 .f32) (main_arg15 : FVec F S3x1024 .f32) (main_v33 : IVec S_ 1) : IVec S_ 1 :=
  let main_v34 : FVec F S3x1024 .f32 := Host.absf main_arg11
  let main_cst_12 : FVec F S_ .f32 := constant S_ .f32 0x7F800000#32
  let main_v35 : FVec F S3x1024 .f32 := broadcastInDim S3x1024 ![] bcast_S_S3x1024 main_cst_12
  let main_v36 : IVec S3x1024 1 := cmpf .olt main_v34 main_v35
  let main_c_13 : IVec S_ 1 := constantI S_ 1 1#1
  let main_v37 : IVec S_ 1 := (fun x v => Host.reduce IntOp.andi x v reducesTo_S3x1024_S_d0_1 h_S_) main_v36 main_c_13
  let main_v38 : IVec S_ 1 := andi main_v33 main_v37
  let main_v39 : FVec F S3x1024x1024 .f32 := Host.absf main_arg12
  let main_cst_14 : FVec F S_ .f32 := constant S_ .f32 0x7F800000#32
  let main_v40 : FVec F S3x1024x1024 .f32 := broadcastInDim S3x1024x1024 ![] bcast_S_S3x1024x1024 main_cst_14
  let main_v41 : IVec S3x1024x1024 1 := cmpf .olt main_v39 main_v40
  let main_c_15 : IVec S_ 1 := constantI S_ 1 1#1
  let main_v42 : IVec S_ 1 := (fun x v => Host.reduce IntOp.andi x v reducesTo_S3x1024x1024_S_d0_1_2 h_S_) main_v41 main_c_15
  let main_v43 : IVec S_ 1 := andi main_v38 main_v42
  let main_v44 : FVec F S3x1024 .f32 := Host.absf main_arg13
  let main_cst_16 : FVec F S_ .f32 := constant S_ .f32 0x7F800000#32
  let main_v45 : FVec F S3x1024 .f32 := broadcastInDim S3x1024 ![] bcast_S_S3x1024 main_cst_16
  let main_v46 : IVec S3x1024 1 := cmpf .olt main_v44 main_v45
  let main_c_17 : IVec S_ 1 := constantI S_ 1 1#1
  let main_v47 : IVec S_ 1 := (fun x v => Host.reduce IntOp.andi x v reducesTo_S3x1024_S_d0_1 h_S_) main_v46 main_c_17
  let main_v48 : IVec S_ 1 := andi main_v43 main_v47
  let main_v49 : FVec F S3x1024 .f32 := Host.absf main_arg14
  let main_cst_18 : FVec F S_ .f32 := constant S_ .f32 0x7F800000#32
  let main_v50 : FVec F S3x1024 .f32 := broadcastInDim S3x1024 ![] bcast_S_S3x1024 main_cst_18
  fn_part3 (F := F) main_arg15 main_v48 main_v49 main_v50

def fn_part1 {F : FTy → Type} [FloatOps F] (main_arg6 : FVec F S3x1024 .f32) (main_arg7 : FVec F S3x1024 .f32) (main_arg8 : FVec F S3x1024 .f32) (main_arg11 : FVec F S3x1024 .f32) (main_arg12 : FVec F S3x1024x1024 .f32) (main_arg13 : FVec F S3x1024 .f32) (main_arg14 : FVec F S3x1024 .f32) (main_arg15 : FVec F S3x1024 .f32) (main_v13 : IVec S_ 1) (main_v16 : IVec S3x1024x1024 1) : IVec S_ 1 :=
  let main_c_5 : IVec S_ 1 := constantI S_ 1 1#1
  let main_v17 : IVec S_ 1 := (fun x v => Host.reduce IntOp.andi x v reducesTo_S3x1024x1024_S_d0_1_2 h_S_) main_v16 main_c_5
  let main_v18 : IVec S_ 1 := andi main_v13 main_v17
  let main_v19 : FVec F S3x1024 .f32 := Host.absf main_arg6
  let main_cst_6 : FVec F S_ .f32 := constant S_ .f32 0x7F800000#32
  let main_v20 : FVec F S3x1024 .f32 := broadcastInDim S3x1024 ![] bcast_S_S3x1024 main_cst_6
  let main_v21 : IVec S3x1024 1 := cmpf .olt main_v19 main_v20
  let main_c_7 : IVec S_ 1 := constantI S_ 1 1#1
  let main_v22 : IVec S_ 1 := (fun x v => Host.reduce IntOp.andi x v reducesTo_S3x1024_S_d0_1 h_S_) main_v21 main_c_7
  let main_v23 : IVec S_ 1 := andi main_v18 main_v22
  let main_v24 : FVec F S3x1024 .f32 := Host.absf main_arg7
  let main_cst_8 : FVec F S_ .f32 := constant S_ .f32 0x7F800000#32
  let main_v25 : FVec F S3x1024 .f32 := broadcastInDim S3x1024 ![] bcast_S_S3x1024 main_cst_8
  let main_v26 : IVec S3x1024 1 := cmpf .olt main_v24 main_v25
  let main_c_9 : IVec S_ 1 := constantI S_ 1 1#1
  let main_v27 : IVec S_ 1 := (fun x v => Host.reduce IntOp.andi x v reducesTo_S3x1024_S_d0_1 h_S_) main_v26 main_c_9
  let main_v28 : IVec S_ 1 := andi main_v23 main_v27
  let main_v29 : FVec F S3x1024 .f32 := Host.absf main_arg8
  let main_cst_10 : FVec F S_ .f32 := constant S_ .f32 0x7F800000#32
  let main_v30 : FVec F S3x1024 .f32 := broadcastInDim S3x1024 ![] bcast_S_S3x1024 main_cst_10
  let main_v31 : IVec S3x1024 1 := cmpf .olt main_v29 main_v30
  let main_c_11 : IVec S_ 1 := constantI S_ 1 1#1
  let main_v32 : IVec S_ 1 := (fun x v => Host.reduce IntOp.andi x v reducesTo_S3x1024_S_d0_1 h_S_) main_v31 main_c_11
  let main_v33 : IVec S_ 1 := andi main_v28 main_v32
  fn_part2 (F := F) main_arg11 main_arg12 main_arg13 main_arg14 main_arg15 main_v33

def fn {F : FTy → Type} [FloatOps F] (main_arg0 : FVec F S2x2048x1024 .f32) (main_arg1 : FVec F S2x2048x1024 .f32) (main_arg2 : FVec F S3x1024x1024 .f32) (main_arg3 : FVec F S3x1024 .f32) (main_arg4 : FVec F S3x1024 .f32) (main_arg5 : FVec F S3x1024x1024 .f32) (main_arg6 : FVec F S3x1024 .f32) (main_arg7 : FVec F S3x1024 .f32) (main_arg8 : FVec F S3x1024 .f32) (main_arg9 : FVec F S3x1024x1024 .f32) (main_arg10 : FVec F S3x1024 .f32) (main_arg11 : FVec F S3x1024 .f32) (main_arg12 : FVec F S3x1024x1024 .f32) (main_arg13 : FVec F S3x1024 .f32) (main_arg14 : FVec F S3x1024 .f32) (main_arg15 : FVec F S3x1024 .f32) (main_arg16 : FVec F S1024x4 .f32) (main_arg17 : FVec F S4 .f32) (main_arg18 : FVec F S4x1024x1024 .f32) (main_arg19 : FVec F S4x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S3x1024 .f32 := Host.absf main_arg4
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_c_3 : IVec S_ 1 := constantI S_ 1 1#1
  let main_v12 : IVec S_ 1 := (fun x v => Host.reduce IntOp.andi x v reducesTo_S3x1024_S_d0_1 h_S_) main_v11 main_c_3
  let main_v13 : IVec S_ 1 := andi main_v8 main_v12
  let main_v14 : FVec F S3x1024x1024 .f32 := Host.absf main_arg5
  let main_cst_4 : FVec F S_ .f32 := constant S_ .f32 0x7F800000#32
  let main_v15 : FVec F S3x1024x1024 .f32 := broadcastInDim S3x1024x1024 ![] bcast_S_S3x1024x1024 main_cst_4
  let main_v16 : IVec S3x1024x1024 1 := cmpf .olt main_v14 main_v15
  fn_part1 (F := F) main_arg6 main_arg7 main_arg8 main_arg11 main_arg12 main_arg13 main_arg14 main_arg15 main_v13 main_v16
-- ==== Kernel.lean ====
abbrev S2x2048x1024 : Shape := ⟨3, ![2, 2048, 1024]⟩
abbrev S3x1024x1024 : Shape := ⟨3, ![3, 1024, 1024]⟩
abbrev S3x1024 : Shape := ⟨2, ![3, 1024]⟩
abbrev S1024x4 : Shape := ⟨2, ![1024, 4]⟩
abbrev S4 : Shape := ⟨1, ![4]⟩
abbrev S4x1024x1024 : Shape := ⟨3, ![4, 1024, 1024]⟩
abbrev S4x1024 : Shape := ⟨2, ![4, 1024]⟩
abbrev S4096x1024 : Shape := ⟨2, ![4096, 1024]⟩
abbrev S3x1x1024 : Shape := ⟨3, ![3, 1, 1024]⟩
abbrev S1x4 : Shape := ⟨2, ![1, 4]⟩
abbrev S4x1x1024 : Shape := ⟨3, ![4, 1, 1024]⟩
abbrev S4096x4 : Shape := ⟨2, ![4096, 4]⟩
abbrev S512x1024 : Shape := ⟨2, ![512, 1024]⟩
abbrev S512x4 : Shape := ⟨2, ![512, 4]⟩
abbrev S256x1024 : Shape := ⟨2, ![256, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024 : Shape := ⟨2, ![1, 1024]⟩
abbrev S256 : Shape := ⟨1, ![256]⟩
abbrev S256x1 : Shape := ⟨2, ![256, 1]⟩
abbrev S256x4 : Shape := ⟨2, ![256, 4]⟩
abbrev S512 : Shape := ⟨1, ![512]⟩
abbrev S512x1 : Shape := ⟨2, ![512, 1]⟩
abbrev S2x2048x4 : Shape := ⟨3, ![2, 2048, 4]⟩

abbrev nBuf : Space → Nat
  | .hbm => 40
  | .vmem => 28
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S3x1024x1024, .f32⟩
  | .hbm, ⟨3, _⟩ => ⟨S3x1024, .f32⟩
  | .hbm, ⟨4, _⟩ => ⟨S3x1024, .f32⟩
  | .hbm, ⟨5, _⟩ => ⟨S3x1024x1024, .f32⟩
  | .hbm, ⟨6, _⟩ => ⟨S3x1024, .f32⟩
  | .hbm, ⟨7, _⟩ => ⟨S3x1024, .f32⟩
  | .hbm, ⟨8, _⟩ => ⟨S3x1024, .f32⟩
  | .hbm, ⟨9, _⟩ => ⟨S3x1024x1024, .f32⟩
  | .hbm, ⟨10, _⟩ => ⟨S3x1024, .f32⟩
  | .hbm, ⟨11, _⟩ => ⟨S3x1024, .f32⟩
  | .hbm, ⟨12, _⟩ => ⟨S3x1024x1024, .f32⟩
  | .hbm, ⟨13, _⟩ => ⟨S3x1024, .f32⟩
  | .hbm, ⟨14, _⟩ => ⟨S3x1024, .f32⟩
  | .hbm, ⟨15, _⟩ => ⟨S3x1024, .f32⟩
  | .hbm, ⟨16, _⟩ => ⟨S1024x4, .f32⟩
  | .hbm, ⟨17, _⟩ => ⟨S4, .f32⟩
  | .hbm, ⟨18, _⟩ => ⟨S4x1024x1024, .f32⟩
  | .hbm, ⟨19, _⟩ => ⟨S4x1024, .f32⟩
  | .hbm, ⟨20, _⟩ => ⟨S4096x1024, .f32⟩
  | .hbm, ⟨21, _⟩ => ⟨S4096x1024, .f32⟩
  | .hbm, ⟨22, _⟩ => ⟨S3x1x1024, .f32⟩
  | .hbm, ⟨23, _⟩ => ⟨S3x1x1024, .f32⟩
  | .hbm, ⟨24, _⟩ => ⟨S3x1x1024, .f32⟩
  | .hbm, ⟨25, _⟩ => ⟨S3x1x1024, .f32⟩
  | .hbm, ⟨26, _⟩ => ⟨S3x1x1024, .f32⟩
  | .hbm, ⟨27, _⟩ => ⟨S1x4, .f32⟩
  | .hbm, ⟨28, _⟩ => ⟨S4x1x1024, .f32⟩
  | .hbm, ⟨29, _⟩ => ⟨S4096x1024, .f32⟩
  | .hbm, ⟨30, _⟩ => ⟨S4096x4, .f32⟩
  | .hbm, ⟨31, _⟩ => ⟨S3x1x1024, .f32⟩
  | .hbm, ⟨32, _⟩ => ⟨S3x1x1024, .f32⟩
  | .hbm, ⟨33, _⟩ => ⟨S3x1x1024, .f32⟩
  | .hbm, ⟨34, _⟩ => ⟨S3x1x1024, .f32⟩
  | .hbm, ⟨35, _⟩ => ⟨S3x1x1024, .f32⟩
  | .hbm, ⟨36, _⟩ => ⟨S4096x1024, .f32⟩
  | .hbm, ⟨37, _⟩ => ⟨S2x2048x1024, .f32⟩
  | .hbm, ⟨38, _⟩ => ⟨S2x2048x4, .f32⟩
  | .hbm, ⟨39, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S3x1024x1024, .f32⟩
  | .local _ .vmem, ⟨3, _⟩ => ⟨S3x1x1024, .f32⟩
  | .local _ .vmem, ⟨4, _⟩ => ⟨S3x1x1024, .f32⟩
  | .local _ .vmem, ⟨5, _⟩ => ⟨S3x1024x1024, .f32⟩
  | .local _ .vmem, ⟨6, _⟩ => ⟨S3x1x1024, .f32⟩
  | .local _ .vmem, ⟨7, _⟩ => ⟨S3x1x1024, .f32⟩
  | .local _ .vmem, ⟨8, _⟩ => ⟨S3x1x1024, .f32⟩
  | .local _ .vmem, ⟨9, _⟩ => ⟨S1024x4, .f32⟩
  | .local _ .vmem, ⟨10, _⟩ => ⟨S1x4, .f32⟩
  | .local _ .vmem, ⟨11, _⟩ => ⟨S4x1024x1024, .f32⟩
  | .local _ .vmem, ⟨12, _⟩ => ⟨S4x1x1024, .f32⟩
  | .local _ .vmem, ⟨13, _⟩ => ⟨S512x1024, .f32⟩
  | .local _ .vmem, ⟨14, _⟩ => ⟨S512x1024, .f32⟩
  | .local _ .vmem, ⟨15, _⟩ => ⟨S512x4, .f32⟩
  | .local _ .vmem, ⟨16, _⟩ => ⟨S512x4, .f32⟩
  | .local _ .vmem, ⟨17, _⟩ => ⟨S1024x1024, .f32⟩
  | .local _ .vmem, ⟨18, _⟩ => ⟨S1024x1024, .f32⟩
  | .local _ .vmem, ⟨19, _⟩ => ⟨S3x1024x1024, .f32⟩
  | .local _ .vmem, ⟨20, _⟩ => ⟨S3x1x1024, .f32⟩
  | .local _ .vmem, ⟨21, _⟩ => ⟨S3x1x1024, .f32⟩
  | .local _ .vmem, ⟨22, _⟩ => ⟨S3x1024x1024, .f32⟩
  | .local _ .vmem, ⟨23, _⟩ => ⟨S3x1x1024, .f32⟩
  | .local _ .vmem, ⟨24, _⟩ => ⟨S3x1x1024, .f32⟩
  | .local _ .vmem, ⟨25, _⟩ => ⟨S3x1x1024, .f32⟩
  | .local _ .vmem, ⟨26, _⟩ => ⟨S1024x1024, .f32⟩
  | .local _ .vmem, ⟨27, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9_0 : Ref sig .tc := ⟨.hbm, 29, rfl⟩
abbrev main_v9_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc1_sem0_0 : DmaSem sig := 17
abbrev cc1_sem0_1 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x1024x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S3x1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3x1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S2x2048x1024 : Shape := ⟨3, ![2, 2048, 1024]⟩
abbrev S3x1024x1024 : Shape := ⟨3, ![3, 1024, 1024]⟩
abbrev S3x1024 : Shape := ⟨2, ![3, 1024]⟩
abbrev S1024x4 : Shape := ⟨2, ![1024, 4]⟩
abbrev S4 : Shape := ⟨1, ![4]⟩
abbrev S4x1024x1024 : Shape := ⟨3, ![4, 1024, 1024]⟩
abbrev S4x1024 : Shape := ⟨2, ![4, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S_ : Shape := ⟨0, ![]⟩
abbrev S2x1x1024 : Shape := ⟨3, ![2, 1, 1024]⟩
abbrev S2x2048 : Shape := ⟨2, ![2, 2048]⟩
abbrev S2x2048x1 : Shape := ⟨3, ![2, 2048, 1]⟩
abbrev S2x2048x4 : Shape := ⟨3, ![2, 2048, 4]⟩
abbrev S1x1x4 : Shape := ⟨3, ![1, 1, 4]⟩
abbrev S2x2048x4x1024 : Shape := ⟨4, ![2, 2048, 4, 1024]⟩
abbrev S1x1x4x1024 : Shape := ⟨4, ![1, 1, 4, 1024]⟩

abbrev nBuf : Space → Nat
  | .hbm => 565
  | .vmem => 0
  | .smem => 0
  | _ => 0

abbrev hbmTy0_0 (i : Nat) : BufTy := match i % 128 with
  | 0 => ⟨S2x2048x1024, .f32⟩
  | 1 => ⟨S2x2048x1024, .f32⟩
  | 2 => ⟨S3x1024x1024, .f32⟩
  | 3 => ⟨S3x1024, .f32⟩
  | 4 => ⟨S3x1024, .f32⟩
  | 5 => ⟨S3x1024x1024, .f32⟩
  | 6 => ⟨S3x1024, .f32⟩
  | 7 => ⟨S3x1024, .f32⟩
  | 8 => ⟨S3x1024, .f32⟩
  | 9 => ⟨S3x1024x1024, .f32⟩
  | 10 => ⟨S3x1024, .f32⟩
  | 11 => ⟨S3x1024, .f32⟩
  | 12 => ⟨S3x1024x1024, .f32⟩
  | 13 => ⟨S3x1024, .f32⟩
  | 14 => ⟨S3x1024, .f32⟩
  | 15 => ⟨S3x1024, .f32⟩
  | 16 => ⟨S1024x4, .f32⟩
  | 17 => ⟨S4, .f32⟩
  | 18 => ⟨S4x1024x1024, .f32⟩
  | 19 => ⟨S4x1024, .f32⟩
  | 20 => ⟨S1x1024x1024, .f32⟩
  | 21 => ⟨S1024x1024, .f32⟩
  | 22 => ⟨S1x1024, .f32⟩
  | 23 => ⟨S1024, .f32⟩
  | 24 => ⟨S1x1024, .f32⟩
  | 25 => ⟨S1024, .f32⟩
  | 26 => ⟨S1x1024x1024, .f32⟩
  | 27 => ⟨S1024x1024, .f32⟩
  | 28 => ⟨S1x1024, .f32⟩
  | 29 => ⟨S1024, .f32⟩
  | 30 => ⟨S1x1024, .f32⟩
  | 31 => ⟨S1024, .f32⟩
  | 32 => ⟨S1x1024, .f32⟩
  | 33 => ⟨S1024, .f32⟩
  | 34 => ⟨S2x2048x1024, .f32⟩
  | 35 => ⟨S1x1x1024, .f32⟩
  | 36 => ⟨S2x2048x1024, .f32⟩
  | 37 => ⟨S2x2048x1024, .f32⟩
  | 38 => ⟨S2x2048x1024, .f32⟩
  | 39 => ⟨S2x2048x1024, .f32⟩
  | 40 => ⟨S_, .f32⟩
  | 41 => ⟨S2x2048x1024, .f32⟩
  | 42 => ⟨S2x2048x1024, .f32⟩
  | 43 => ⟨S_, .f32⟩
  | 44 => ⟨S2x2048x1024, .f32⟩
  | 45 => ⟨S2x2048x1024, .f32⟩
  | 46 => ⟨S_, .f32⟩
  | 47 => ⟨S2x1x1024, .f32⟩
  | 48 => ⟨S_, .f32⟩
  | 49 => ⟨S2x2048x1024, .f32⟩
  | 50 => ⟨S2x2048x1024, .f32⟩
  | 51 => ⟨S2x2048x1024, .f32⟩
  | 52 => ⟨S2x2048x1024, .f32⟩
  | 53 => ⟨S1x1x1024, .f32⟩
  | 54 => ⟨S2x2048x1024, .f32⟩
  | 55 => ⟨S2x2048x1024, .f32⟩
  | 56 => ⟨S2x2048x1024, .f32⟩
  | 57 => ⟨S2x2048x1024, .f32⟩
  | 58 => ⟨S2x2048x1024, .f32⟩
  | 59 => ⟨S1x1x1024, .f32⟩
  | 60 => ⟨S2x2048x1024, .f32⟩
  | 61 => ⟨S2x2048x1024, .f32⟩
  | 62 => ⟨S2x2048x1024, .f32⟩
  | 63 => ⟨S_, .f32⟩
  | 64 => ⟨S2x2048, .f32⟩
  | 65 => ⟨S2x2048x1, .f32⟩
  | 66 => ⟨S_, .f32⟩
  | 67 => ⟨S2x2048x1, .f32⟩
  | 68 => ⟨S2x2048x1, .f32⟩
  | 69 => ⟨S_, .i32⟩
  | 70 => ⟨S_, .f32⟩
  | 71 => ⟨S2x2048, .f32⟩
  | 72 => ⟨S2x2048x1, .f32⟩
  | 73 => ⟨S_, .f32⟩
  | 74 => ⟨S2x2048x1, .f32⟩
  | 75 => ⟨S2x2048x1, .f32⟩
  | 76 => ⟨S2x2048x1024, .f32⟩
  | 77 => ⟨S2x2048x1024, .f32⟩
  | 78 => ⟨S2x2048x1024, .f32⟩
  | 79 => ⟨S_, .f32⟩
  | 80 => ⟨S_, .f32⟩
  | 81 => ⟨S_, .f32⟩
  | 82 => ⟨S_, .f32⟩
  | 83 => ⟨S2x2048, .f32⟩
  | 84 => ⟨S2x2048x1, .f32⟩
  | 85 => ⟨S2x2048x1, .f32⟩
  | 86 => ⟨S2x2048x1, .f32⟩
  | 87 => ⟨S_, .f32⟩
  | 88 => ⟨S_, .i1⟩
  | 89 => ⟨S_, .f32⟩
  | 90 => ⟨S_, .f32⟩
  | 91 => ⟨S2x2048x1, .f32⟩
  | 92 => ⟨S2x2048x1, .f32⟩
  | 93 => ⟨S2x2048x1024, .f32⟩
  | 94 => ⟨S2x2048x1024, .f32⟩
  | 95 => ⟨S_, .f32⟩
  | 96 => ⟨S2x2048x1, .f32⟩
  | 97 => ⟨S2x2048x1, .f32⟩
  | 98 => ⟨S2x2048x1, .f32⟩
  | 99 => ⟨S2x2048x1024, .f32⟩
  | 100 => ⟨S2x2048x1024, .f32⟩
  | 101 => ⟨S1x1x1024, .f32⟩
  | 102 => ⟨S2x2048x1024, .f32⟩
  | 103 => ⟨S2x2048x1024, .f32⟩
  | 104 => ⟨S1x1x1024, .f32⟩
  | 105 => ⟨S2x2048x1024, .f32⟩
  | 106 => ⟨S2x2048x1024, .f32⟩
  | 107 => ⟨S1x1024x1024, .f32⟩
  | 108 => ⟨S1024x1024, .f32⟩
  | 109 => ⟨S1x1024, .f32⟩
  | 110 => ⟨S1024, .f32⟩
  | 111 => ⟨S1x1024, .f32⟩
  | 112 => ⟨S1024, .f32⟩
  | 113 => ⟨S1x1024x1024, .f32⟩
  | 114 => ⟨S1024x1024, .f32⟩
  | 115 => ⟨S1x1024, .f32⟩
  | 116 => ⟨S1024, .f32⟩
  | 117 => ⟨S1x1024, .f32⟩
  | 118 => ⟨S1024, .f32⟩
  | 119 => ⟨S1x1024, .f32⟩
  | 120 => ⟨S1024, .f32⟩
  | 121 => ⟨S2x2048x1024, .f32⟩
  | 122 => ⟨S1x1x1024, .f32⟩
  | 123 => ⟨S2x2048x1024, .f32⟩
  | 124 => ⟨S2x2048x1024, .f32⟩
  | 125 => ⟨S2x2048x1024, .f32⟩
  | 126 => ⟨S2x2048x1024, .f32⟩
  | 127 => ⟨S_, .f32⟩
  | _ => ⟨S2x2048x1024, .f32⟩

abbrev hbmTy0_1 (i : Nat) : BufTy := match i % 128 with
  | 0 => ⟨S2x2048x1024, .f32⟩
  | 1 => ⟨S2x2048x1024, .f32⟩
  | 2 => ⟨S_, .f32⟩
  | 3 => ⟨S2x2048x1024, .f32⟩
  | 4 => ⟨S2x2048x1024, .f32⟩
  | 5 => ⟨S_, .f32⟩
  | 6 => ⟨S2x1x1024, .f32⟩
  | 7 => ⟨S_, .f32⟩
  | 8 => ⟨S2x2048x1024, .f32⟩
  | 9 => ⟨S2x2048x1024, .f32⟩
  | 10 => ⟨S2x2048x1024, .f32⟩
  | 11 => ⟨S2x2048x1024, .f32⟩
  | 12 => ⟨S1x1x1024, .f32⟩
  | 13 => ⟨S2x2048x1024, .f32⟩
  | 14 => ⟨S2x2048x1024, .f32⟩
  | 15 => ⟨S2x2048x1024, .f32⟩
  | 16 => ⟨S2x2048x1024, .f32⟩
  | 17 => ⟨S2x2048x1024, .f32⟩
  | 18 => ⟨S1x1x1024, .f32⟩
  | 19 => ⟨S2x2048x1024, .f32⟩
  | 20 => ⟨S2x2048x1024, .f32⟩
  | 21 => ⟨S2x2048x1024, .f32⟩
  | 22 => ⟨S_, .f32⟩
  | 23 => ⟨S2x2048, .f32⟩
  | 24 => ⟨S2x2048x1, .f32⟩
  | 25 => ⟨S_, .f32⟩
  | 26 => ⟨S2x2048x1, .f32⟩
  | 27 => ⟨S2x2048x1, .f32⟩
  | 28 => ⟨S_, .i32⟩
  | 29 => ⟨S_, .f32⟩
  | 30 => ⟨S2x2048, .f32⟩
  | 31 => ⟨S2x2048x1, .f32⟩
  | 32 => ⟨S_, .f32⟩
  | 33 => ⟨S2x2048x1, .f32⟩
  | 34 => ⟨S2x2048x1, .f32⟩
  | 35 => ⟨S2x2048x1024, .f32⟩
  | 36 => ⟨S2x2048x1024, .f32⟩
  | 37 => ⟨S2x2048x1024, .f32⟩
  | 38 => ⟨S_, .f32⟩
  | 39 => ⟨S_, .f32⟩
  | 40 => ⟨S_, .f32⟩
  | 41 => ⟨S_, .f32⟩
  | 42 => ⟨S2x2048, .f32⟩
  | 43 => ⟨S2x2048x1, .f32⟩
  | 44 => ⟨S2x2048x1, .f32⟩
  | 45 => ⟨S2x2048x1, .f32⟩
  | 46 => ⟨S_, .f32⟩
  | 47 => ⟨S_, .i1⟩
  | 48 => ⟨S_, .f32⟩
  | 49 => ⟨S_, .f32⟩
  | 50 => ⟨S2x2048x1, .f32⟩
  | 51 => ⟨S2x2048x1, .f32⟩
  | 52 => ⟨S2x2048x1024, .f32⟩
  | 53 => ⟨S2x2048x1024, .f32⟩
  | 54 => ⟨S_, .f32⟩
  | 55 => ⟨S2x2048x1, .f32⟩
  | 56 => ⟨S2x2048x1, .f32⟩
  | 57 => ⟨S2x2048x1, .f32⟩
  | 58 => ⟨S2x2048x1024, .f32⟩
  | 59 => ⟨S2x2048x1024, .f32⟩
  | 60 => ⟨S1x1x1024, .f32⟩
  | 61 => ⟨S2x2048x1024, .f32⟩
  | 62 => ⟨S2x2048x1024, .f32⟩
  | 63 => ⟨S1x1x1024, .f32⟩
  | 64 => ⟨S2x2048x1024, .f32⟩
  | 65 => ⟨S2x2048x1024, .f32⟩
  | 66 => ⟨S1x1024x1024, .f32⟩
  | 67 => ⟨S1024x1024, .f32⟩
  | 68 => ⟨S1x1024, .f32⟩
  | 69 => ⟨S1024, .f32⟩
  | 70 => ⟨S1x1024, .f32⟩
  | 71 => ⟨S1024, .f32⟩
  | 72 => ⟨S1x1024x1024, .f32⟩
  | 73 => ⟨S1024x1024, .f32⟩
  | 74 => ⟨S1x1024, .f32⟩
  | 75 => ⟨S1024, .f32⟩
  | 76 => ⟨S1x1024, .f32⟩
  | 77 => ⟨S1024, .f32⟩
  | 78 => ⟨S1x1024, .f32⟩
  | 79 => ⟨S1024, .f32⟩
  | 80 => ⟨S2x2048x1024, .f32⟩
  | 81 => ⟨S1x1x1024, .f32⟩
  | 82 => ⟨S2x2048x1024, .f32⟩
  | 83 => ⟨S2x2048x1024, .f32⟩
  | 84 => ⟨S2x2048x1024, .f32⟩
  | 85 => ⟨S2x2048x1024, .f32⟩
  | 86 => ⟨S_, .f32⟩
  | 87 => ⟨S2x2048x1024, .f32⟩
  | 88 => ⟨S2x2048x1024, .f32⟩
  | 89 => ⟨S_, .f32⟩
  | 90 => ⟨S2x2048x1024, .f32⟩
  | 91 => ⟨S2x2048x1024, .f32⟩
  | 92 => ⟨S_, .f32⟩
  | 93 => ⟨S2x1x1024, .f32⟩
  | 94 => ⟨S_, .f32⟩
  | 95 => ⟨S2x2048x1024, .f32⟩
  | 96 => ⟨S2x2048x1024, .f32⟩
  | 97 => ⟨S2x2048x1024, .f32⟩
  | 98 => ⟨S2x2048x1024, .f32⟩
  | 99 => ⟨S1x1x1024, .f32⟩
  | 100 => ⟨S2x2048x1024, .f32⟩
  | 101 => ⟨S2x2048x1024, .f32⟩
  | 102 => ⟨S2x2048x1024, .f32⟩
  | 103 => ⟨S2x2048x1024, .f32⟩
  | 104 => ⟨S2x2048x1024, .f32⟩
  | 105 => ⟨S1x1x1024, .f32⟩
  | 106 => ⟨S2x2048x1024, .f32⟩
  | 107 => ⟨S2x2048x1024, .f32⟩
  | 108 => ⟨S2x2048x1024, .f32⟩
  | 109 => ⟨S_, .f32⟩
  | 110 => ⟨S2x2048, .f32⟩
  | 111 => ⟨S2x2048x1, .f32⟩
  | 112 => ⟨S_, .f32⟩
  | 113 => ⟨S2x2048x1, .f32⟩
  | 114 => ⟨S2x2048x1, .f32⟩
  | 115 => ⟨S_, .i32⟩
  | 116 => ⟨S_, .f32⟩
  | 117 => ⟨S2x2048, .f32⟩
  | 118 => ⟨S2x2048x1, .f32⟩
  | 119 => ⟨S_, .f32⟩
  | 120 => ⟨S2x2048x1, .f32⟩
  | 121 => ⟨S2x2048x1, .f32⟩
  | 122 => ⟨S2x2048x1024, .f32⟩
  | 123 => ⟨S2x2048x1024, .f32⟩
  | 124 => ⟨S2x2048x1024, .f32⟩
  | 125 => ⟨S_, .f32⟩
  | 126 => ⟨S_, .f32⟩
  | 127 => ⟨S_, .f32⟩
  | _ => ⟨S2x2048x1024, .f32⟩

abbrev hbmTy0_2 (i : Nat) : BufTy := match i % 128 with
  | 0 => ⟨S_, .f32⟩
  | 1 => ⟨S2x2048, .f32⟩
  | 2 => ⟨S2x2048x1, .f32⟩
  | 3 => ⟨S2x2048x1, .f32⟩
  | 4 => ⟨S2x2048x1, .f32⟩
  | 5 => ⟨S_, .f32⟩
  | 6 => ⟨S_, .i1⟩
  | 7 => ⟨S_, .f32⟩
  | 8 => ⟨S_, .f32⟩
  | 9 => ⟨S2x2048x1, .f32⟩
  | 10 => ⟨S2x2048x1, .f32⟩
  | 11 => ⟨S2x2048x1024, .f32⟩
  | 12 => ⟨S2x2048x1024, .f32⟩
  | 13 => ⟨S_, .f32⟩
  | 14 => ⟨S2x2048x1, .f32⟩
  | 15 => ⟨S2x2048x1, .f32⟩
  | 16 => ⟨S2x2048x1, .f32⟩
  | 17 => ⟨S2x2048x1024, .f32⟩
  | 18 => ⟨S2x2048x1024, .f32⟩
  | 19 => ⟨S1x1x1024, .f32⟩
  | 20 => ⟨S2x2048x1024, .f32⟩
  | 21 => ⟨S2x2048x1024, .f32⟩
  | 22 => ⟨S1x1x1024, .f32⟩
  | 23 => ⟨S2x2048x1024, .f32⟩
  | 24 => ⟨S2x2048x1024, .f32⟩
  | 25 => ⟨S1x1024x1024, .f32⟩
  | 26 => ⟨S1024x1024, .f32⟩
  | 27 => ⟨S1x1024, .f32⟩
  | 28 => ⟨S1024, .f32⟩
  | 29 => ⟨S1x1024, .f32⟩
  | 30 => ⟨S1024, .f32⟩
  | 31 => ⟨S1x1024x1024, .f32⟩
  | 32 => ⟨S1024x1024, .f32⟩
  | 33 => ⟨S1x1024, .f32⟩
  | 34 => ⟨S1024, .f32⟩
  | 35 => ⟨S1x1024, .f32⟩
  | 36 => ⟨S1024, .f32⟩
  | 37 => ⟨S1x1024, .f32⟩
  | 38 => ⟨S1024, .f32⟩
  | 39 => ⟨S2x2048x1024, .f32⟩
  | 40 => ⟨S1x1x1024, .f32⟩
  | 41 => ⟨S2x2048x1024, .f32⟩
  | 42 => ⟨S2x2048x1024, .f32⟩
  | 43 => ⟨S2x2048x1024, .f32⟩
  | 44 => ⟨S2x2048x1024, .f32⟩
  | 45 => ⟨S_, .f32⟩
  | 46 => ⟨S2x2048x1024, .f32⟩
  | 47 => ⟨S2x2048x1024, .f32⟩
  | 48 => ⟨S_, .f32⟩
  | 49 => ⟨S2x2048x1024, .f32⟩
  | 50 => ⟨S2x2048x1024, .f32⟩
  | 51 => ⟨S_, .f32⟩
  | 52 => ⟨S2x1x1024, .f32⟩
  | 53 => ⟨S_, .f32⟩
  | 54 => ⟨S2x2048x1024, .f32⟩
  | 55 => ⟨S2x2048x1024, .f32⟩
  | 56 => ⟨S2x2048x1024, .f32⟩
  | 57 => ⟨S2x2048x1024, .f32⟩
  | 58 => ⟨S1x1x1024, .f32⟩
  | 59 => ⟨S2x2048x1024, .f32⟩
  | 60 => ⟨S2x2048x1024, .f32⟩
  | 61 => ⟨S2x2048x1024, .f32⟩
  | 62 => ⟨S2x2048x1024, .f32⟩
  | 63 => ⟨S2x2048x1024, .f32⟩
  | 64 => ⟨S1x1x1024, .f32⟩
  | 65 => ⟨S2x2048x1024, .f32⟩
  | 66 => ⟨S2x2048x1024, .f32⟩
  | 67 => ⟨S2x2048x1024, .f32⟩
  | 68 => ⟨S_, .f32⟩
  | 69 => ⟨S2x2048, .f32⟩
  | 70 => ⟨S2x2048x1, .f32⟩
  | 71 => ⟨S_, .f32⟩
  | 72 => ⟨S2x2048x1, .f32⟩
  | 73 => ⟨S2x2048x1, .f32⟩
  | 74 => ⟨S_, .i32⟩
  | 75 => ⟨S_, .f32⟩
  | 76 => ⟨S2x2048, .f32⟩
  | 77 => ⟨S2x2048x1, .f32⟩
  | 78 => ⟨S_, .f32⟩
  | 79 => ⟨S2x2048x1, .f32⟩
  | 80 => ⟨S2x2048x1, .f32⟩
  | 81 => ⟨S2x2048x1024, .f32⟩
  | 82 => ⟨S2x2048x1024, .f32⟩
  | 83 => ⟨S2x2048x1024, .f32⟩
  | 84 => ⟨S_, .f32⟩
  | 85 => ⟨S_, .f32⟩
  | 86 => ⟨S_, .f32⟩
  | 87 => ⟨S_, .f32⟩
  | 88 => ⟨S2x2048, .f32⟩
  | 89 => ⟨S2x2048x1, .f32⟩
  | 90 => ⟨S2x2048x1, .f32⟩
  | 91 => ⟨S2x2048x1, .f32⟩
  | 92 => ⟨S_, .f32⟩
  | 93 => ⟨S_, .i1⟩
  | 94 => ⟨S_, .f32⟩
  | 95 => ⟨S_, .f32⟩
  | 96 => ⟨S2x2048x1, .f32⟩
  | 97 => ⟨S2x2048x1, .f32⟩
  | 98 => ⟨S2x2048x1024, .f32⟩
  | 99 => ⟨S2x2048x1024, .f32⟩
  | 100 => ⟨S_, .f32⟩
  | 101 => ⟨S2x2048x1, .f32⟩
  | 102 => ⟨S2x2048x1, .f32⟩
  | 103 => ⟨S2x2048x1, .f32⟩
  | 104 => ⟨S2x2048x1024, .f32⟩
  | 105 => ⟨S2x2048x1024, .f32⟩
  | 106 => ⟨S1x1x1024, .f32⟩
  | 107 => ⟨S2x2048x1024, .f32⟩
  | 108 => ⟨S2x2048x1024, .f32⟩
  | 109 => ⟨S1x1x1024, .f32⟩
  | 110 => ⟨S2x2048x1024, .f32⟩
  | 111 => ⟨S2x2048x1024, .f32⟩
  | 112 => ⟨S1x1024x1024, .f32⟩
  | 113 => ⟨S1024x1024, .f32⟩
  | 114 => ⟨S1x1024, .f32⟩
  | 115 => ⟨S1024, .f32⟩
  | 116 => ⟨S1x1024, .f32⟩
  | 117 => ⟨S1024, .f32⟩
  | 118 => ⟨S1x1024x1024, .f32⟩
  | 119 => ⟨S1024x1024, .f32⟩
  | 120 => ⟨S1x1024, .f32⟩
  | 121 => ⟨S1024, .f32⟩
  | 122 => ⟨S1x1024, .f32⟩
  | 123 => ⟨S1024, .f32⟩
  | 124 => ⟨S1x1024, .f32⟩
  | 125 => ⟨S1024, .f32⟩
  | 126 => ⟨S2x2048x1024, .f32⟩
  | 127 => ⟨S1x1x1024, .f32⟩
  | _ => ⟨S2x2048x1024, .f32⟩

abbrev hbmTy0_3 (i : Nat) : BufTy := match i % 128 with
  | 0 => ⟨S2x2048x1024, .f32⟩
  | 1 => ⟨S2x2048x1024, .f32⟩
  | 2 => ⟨S2x2048x1024, .f32⟩
  | 3 => ⟨S2x2048x1024, .f32⟩
  | 4 => ⟨S_, .f32⟩
  | 5 => ⟨S2x2048x1024, .f32⟩
  | 6 => ⟨S2x2048x1024, .f32⟩
  | 7 => ⟨S_, .f32⟩
  | 8 => ⟨S2x2048x1024, .f32⟩
  | 9 => ⟨S2x2048x1024, .f32⟩
  | 10 => ⟨S_, .f32⟩
  | 11 => ⟨S2x1x1024, .f32⟩
  | 12 => ⟨S_, .f32⟩
  | 13 => ⟨S2x2048x1024, .f32⟩
  | 14 => ⟨S2x2048x1024, .f32⟩
  | 15 => ⟨S2x2048x1024, .f32⟩
  | 16 => ⟨S2x2048x1024, .f32⟩
  | 17 => ⟨S1x1x1024, .f32⟩
  | 18 => ⟨S2x2048x1024, .f32⟩
  | 19 => ⟨S2x2048x1024, .f32⟩
  | 20 => ⟨S2x2048x1024, .f32⟩
  | 21 => ⟨S2x2048x1024, .f32⟩
  | 22 => ⟨S2x2048x1024, .f32⟩
  | 23 => ⟨S1x1x1024, .f32⟩
  | 24 => ⟨S2x2048x1024, .f32⟩
  | 25 => ⟨S2x2048x1024, .f32⟩
  | 26 => ⟨S2x2048x1024, .f32⟩
  | 27 => ⟨S_, .f32⟩
  | 28 => ⟨S2x2048, .f32⟩
  | 29 => ⟨S2x2048x1, .f32⟩
  | 30 => ⟨S_, .f32⟩
  | 31 => ⟨S2x2048x1, .f32⟩
  | 32 => ⟨S2x2048x1, .f32⟩
  | 33 => ⟨S_, .i32⟩
  | 34 => ⟨S_, .f32⟩
  | 35 => ⟨S2x2048, .f32⟩
  | 36 => ⟨S2x2048x1, .f32⟩
  | 37 => ⟨S_, .f32⟩
  | 38 => ⟨S2x2048x1, .f32⟩
  | 39 => ⟨S2x2048x1, .f32⟩
  | 40 => ⟨S2x2048x1024, .f32⟩
  | 41 => ⟨S2x2048x1024, .f32⟩
  | 42 => ⟨S2x2048x1024, .f32⟩
  | 43 => ⟨S_, .f32⟩
  | 44 => ⟨S_, .f32⟩
  | 45 => ⟨S_, .f32⟩
  | 46 => ⟨S_, .f32⟩
  | 47 => ⟨S2x2048, .f32⟩
  | 48 => ⟨S2x2048x1, .f32⟩
  | 49 => ⟨S2x2048x1, .f32⟩
  | 50 => ⟨S2x2048x1, .f32⟩
  | 51 => ⟨S_, .f32⟩
  | 52 => ⟨S_, .i1⟩
  | 53 => ⟨S_, .f32⟩
  | 54 => ⟨S_, .f32⟩
  | 55 => ⟨S2x2048x1, .f32⟩
  | 56 => ⟨S2x2048x1, .f32⟩
  | 57 => ⟨S2x2048x1024, .f32⟩
  | 58 => ⟨S2x2048x1024, .f32⟩
  | 59 => ⟨S_, .f32⟩
  | 60 => ⟨S2x2048x1, .f32⟩
  | 61 => ⟨S2x2048x1, .f32⟩
  | 62 => ⟨S2x2048x1, .f32⟩
  | 63 => ⟨S2x2048x1024, .f32⟩
  | 64 => ⟨S2x2048x1024, .f32⟩
  | 65 => ⟨S1x1x1024, .f32⟩
  | 66 => ⟨S2x2048x1024, .f32⟩
  | 67 => ⟨S2x2048x1024, .f32⟩
  | 68 => ⟨S1x1x1024, .f32⟩
  | 69 => ⟨S2x2048x1024, .f32⟩
  | 70 => ⟨S2x2048x1024, .f32⟩
  | 71 => ⟨S1x1024x1024, .f32⟩
  | 72 => ⟨S1024x1024, .f32⟩
  | 73 => ⟨S1x1024, .f32⟩
  | 74 => ⟨S1024, .f32⟩
  | 75 => ⟨S1x1024, .f32⟩
  | 76 => ⟨S1024, .f32⟩
  | 77 => ⟨S1x1024x1024, .f32⟩
  | 78 => ⟨S1024x1024, .f32⟩
  | 79 => ⟨S1x1024, .f32⟩
  | 80 => ⟨S1024, .f32⟩
  | 81 => ⟨S1x1024, .f32⟩
  | 82 => ⟨S1024, .f32⟩
  | 83 => ⟨S1x1024, .f32⟩
  | 84 => ⟨S1024, .f32⟩
  | 85 => ⟨S2x2048x1024, .f32⟩
  | 86 => ⟨S1x1x1024, .f32⟩
  | 87 => ⟨S2x2048x1024, .f32⟩
  | 88 => ⟨S2x2048x1024, .f32⟩
  | 89 => ⟨S2x2048x1024, .f32⟩
  | 90 => ⟨S2x2048x1024, .f32⟩
  | 91 => ⟨S_, .f32⟩
  | 92 => ⟨S2x2048x1024, .f32⟩
  | 93 => ⟨S2x2048x1024, .f32⟩
  | 94 => ⟨S_, .f32⟩
  | 95 => ⟨S2x2048x1024, .f32⟩
  | 96 => ⟨S2x2048x1024, .f32⟩
  | 97 => ⟨S_, .f32⟩
  | 98 => ⟨S2x1x1024, .f32⟩
  | 99 => ⟨S_, .f32⟩
  | 100 => ⟨S2x2048x1024, .f32⟩
  | 101 => ⟨S2x2048x1024, .f32⟩
  | 102 => ⟨S2x2048x1024, .f32⟩
  | 103 => ⟨S2x2048x1024, .f32⟩
  | 104 => ⟨S1x1x1024, .f32⟩
  | 105 => ⟨S2x2048x1024, .f32⟩
  | 106 => ⟨S2x2048x1024, .f32⟩
  | 107 => ⟨S2x2048x1024, .f32⟩
  | 108 => ⟨S2x2048x1024, .f32⟩
  | 109 => ⟨S2x2048x1024, .f32⟩
  | 110 => ⟨S1x1x1024, .f32⟩
  | 111 => ⟨S2x2048x1024, .f32⟩
  | 112 => ⟨S2x2048x1024, .f32⟩
  | 113 => ⟨S2x2048x1024, .f32⟩
  | 114 => ⟨S_, .f32⟩
  | 115 => ⟨S2x2048, .f32⟩
  | 116 => ⟨S2x2048x1, .f32⟩
  | 117 => ⟨S_, .f32⟩
  | 118 => ⟨S2x2048x1, .f32⟩
  | 119 => ⟨S2x2048x1, .f32⟩
  | 120 => ⟨S_, .i32⟩
  | 121 => ⟨S_, .f32⟩
  | 122 => ⟨S2x2048, .f32⟩
  | 123 => ⟨S2x2048x1, .f32⟩
  | 124 => ⟨S_, .f32⟩
  | 125 => ⟨S2x2048x1, .f32⟩
  | 126 => ⟨S2x2048x1, .f32⟩
  | 127 => ⟨S2x2048x1024, .f32⟩
  | _ => ⟨S2x2048x1024, .f32⟩

abbrev hbmTy0_4 (i : Nat) : BufTy := match i % 128 with
  | 0 => ⟨S2x2048x1024, .f32⟩
  | 1 => ⟨S2x2048x1024, .f32⟩
  | 2 => ⟨S_, .f32⟩
  | 3 => ⟨S_, .f32⟩
  | 4 => ⟨S_, .f32⟩
  | 5 => ⟨S_, .f32⟩
  | 6 => ⟨S2x2048, .f32⟩
  | 7 => ⟨S2x2048x1, .f32⟩
  | 8 => ⟨S2x2048x1, .f32⟩
  | 9 => ⟨S2x2048x1, .f32⟩
  | 10 => ⟨S_, .f32⟩
  | 11 => ⟨S_, .i1⟩
  | 12 => ⟨S_, .f32⟩
  | 13 => ⟨S_, .f32⟩
  | 14 => ⟨S2x2048x1, .f32⟩
  | 15 => ⟨S2x2048x1, .f32⟩
  | 16 => ⟨S2x2048x1024, .f32⟩
  | 17 => ⟨S2x2048x1024, .f32⟩
  | 18 => ⟨S_, .f32⟩
  | 19 => ⟨S2x2048x1, .f32⟩
  | 20 => ⟨S2x2048x1, .f32⟩
  | 21 => ⟨S2x2048x1, .f32⟩
  | 22 => ⟨S2x2048x1024, .f32⟩
  | 23 => ⟨S2x2048x1024, .f32⟩
  | 24 => ⟨S1x1x1024, .f32⟩
  | 25 => ⟨S2x2048x1024, .f32⟩
  | 26 => ⟨S2x2048x1024, .f32⟩
  | 27 => ⟨S1x1x1024, .f32⟩
  | 28 => ⟨S2x2048x1024, .f32⟩
  | 29 => ⟨S2x2048x1024, .f32⟩
  | 30 => ⟨S2x2048x4, .f32⟩
  | 31 => ⟨S1x1x4, .f32⟩
  | 32 => ⟨S2x2048x4, .f32⟩
  | 33 => ⟨S2x2048x4, .f32⟩
  | 34 => ⟨S_, .f32⟩
  | 35 => ⟨S2x2048, .f32⟩
  | 36 => ⟨S_, .f32⟩
  | 37 => ⟨S2x2048, .f32⟩
  | 38 => ⟨S2x2048, .f32⟩
  | 39 => ⟨S2x2048x1, .f32⟩
  | 40 => ⟨S2x2048x4, .f32⟩
  | 41 => ⟨S2x2048x4, .f32⟩
  | 42 => ⟨S2x2048x4, .f32⟩
  | 43 => ⟨S_, .f32⟩
  | 44 => ⟨S2x2048, .f32⟩
  | 45 => ⟨S2x2048x1, .f32⟩
  | 46 => ⟨S2x2048x4, .f32⟩
  | 47 => ⟨S2x2048x4, .f32⟩
  | 48 => ⟨S2x2048x4x1024, .f32⟩
  | 49 => ⟨S1x1x4x1024, .f32⟩
  | 50 => ⟨S2x2048x4x1024, .f32⟩
  | 51 => ⟨S2x2048x4x1024, .f32⟩
  | 52 => ⟨S2x2048x1024, .f32⟩
  | _ => ⟨S2x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_3 : Ref sig .tc := ⟨.hbm, 63, rfl⟩
abbrev main_v39 : Ref sig .tc := ⟨.hbm, 64, rfl⟩
abbrev main_v40 : Ref sig .tc := ⟨.hbm, 65, rfl⟩
abbrev main_cst_4 : Ref sig .tc := ⟨.hbm, 66, rfl⟩
abbrev main_v41 : Ref sig .tc := ⟨.hbm, 67, rfl⟩
abbrev main_v42 : Ref sig .tc := ⟨.hbm, 68, rfl⟩
abbrev main_c : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_cst_0 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_v5 : Ref sig .tc := ⟨.hbm, 77, rfl⟩
abbrev main_call0_v6 : Ref sig .tc := ⟨.hbm, 78, rfl⟩
abbrev main_call0_v7 : Ref sig .tc := ⟨.hbm, 79, rfl⟩
abbrev main_call0_cst_1 : Ref sig .tc := ⟨.hbm, 80, rfl⟩
abbrev main_call0_v8 : Ref sig .tc := ⟨.hbm, 81, rfl⟩
abbrev main_call0_cst_2 : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_call0_v12 : Ref sig .tc := ⟨.hbm, 86, rfl⟩
abbrev main_call0_cst_3 : Ref sig .tc := ⟨.hbm, 87, rfl⟩
abbrev main_call0_v13 : Ref sig .tc := ⟨.hbm, 88, rfl⟩
abbrev main_call0_cst_4 : Ref sig .tc := ⟨.hbm, 89, rfl⟩
abbrev main_call0_call0_v0 : Ref sig .tc := ⟨.hbm, 90, rfl⟩
abbrev main_call0_call0_v1 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_5 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_6 : Ref sig .tc := ⟨.hbm, 127, rfl⟩
abbrev main_v77 : Ref sig .tc := ⟨.hbm, 128, rfl⟩
abbrev main_v78 : Ref sig .tc := ⟨.hbm, 129, rfl⟩
abbrev main_cst_7 : Ref sig .tc := ⟨.hbm, 130, rfl⟩
abbrev main_v79 : Ref sig .tc := ⟨.hbm, 131, rfl⟩
abbrev main_v80 : Ref sig .tc := ⟨.hbm, 132, rfl⟩
abbrev main_cst_8 : Ref sig .tc := ⟨.hbm, 133, rfl⟩
abbrev main_v81 : Ref sig .tc := ⟨.hbm, 134, rfl⟩
abbrev main_cst_9 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_cst_10 : Ref sig .tc := ⟨.hbm, 150, rfl⟩
abbrev main_v96 : Ref sig .tc := ⟨.hbm, 151, rfl⟩
abbrev main_v97 : Ref sig .tc := ⟨.hbm, 152, rfl⟩
abbrev main_cst_11 : Ref sig .tc := ⟨.hbm, 153, rfl⟩
abbrev main_v98 : Ref sig .tc := ⟨.hbm, 154, rfl⟩
abbrev main_v99 : Ref sig .tc := ⟨.hbm, 155, rfl⟩
abbrev main_c_12 : Ref sig .tc := ⟨.hbm, 156, rfl⟩
abbrev main_call1_cst : Ref sig .tc := ⟨.hbm, 157, rfl⟩
abbrev main_call1_v0 : Ref sig .tc := ⟨.hbm, 158, rfl⟩
abbrev main_call1_v1 : Ref sig .tc := ⟨.hbm, 159, rfl⟩
abbrev main_call1_cst_0 : Ref sig .tc := ⟨.hbm, 160, rfl⟩
abbrev main_call1_v2 : Ref sig .tc := ⟨.hbm, 161, rfl⟩
abbrev main_call1_v3 : Ref sig .tc := ⟨.hbm, 162, rfl⟩
abbrev main_call1_v4 : Ref sig .tc := ⟨.hbm, 163, rfl⟩
abbrev main_call1_v5 : Ref sig .tc := ⟨.hbm, 164, rfl⟩
abbrev main_call1_v6 : Ref sig .tc := ⟨.hbm, 165, rfl⟩
abbrev main_call1_v7 : Ref sig .tc := ⟨.hbm, 166, rfl⟩
abbrev main_call1_cst_1 : Ref sig .tc := ⟨.hbm, 167, rfl⟩
abbrev main_call1_v8 : Ref sig .tc := ⟨.hbm, 168, rfl⟩
abbrev main_call1_cst_2 : Ref sig .tc := ⟨.hbm, 169, rfl⟩
abbrev main_call1_v9 : Ref sig .tc := ⟨.hbm, 170, rfl⟩
abbrev main_call1_v10 : Ref sig .tc := ⟨.hbm, 171, rfl⟩
abbrev main_call1_v11 : Ref sig .tc := ⟨.hbm, 172, rfl⟩
abbrev main_call1_v12 : Ref sig .tc := ⟨.hbm, 173, rfl⟩
abbrev main_call1_cst_3 : Ref sig .tc := ⟨.hbm, 174, rfl⟩
abbrev main_call1_v13 : Ref sig .tc := ⟨.hbm, 175, rfl⟩
abbrev main_call1_cst_4 : Ref sig .tc := ⟨.hbm, 176, rfl⟩
abbrev main_call1_call0_v0 : Ref sig .tc := ⟨.hbm, 177, rfl⟩
abbrev main_call1_call0_v1 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_cst_13 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_cst_14 : Ref sig .tc := ⟨.hbm, 214, rfl⟩
abbrev main_v134 : Ref sig .tc := ⟨.hbm, 215, rfl⟩
abbrev main_v135 : Ref sig .tc := ⟨.hbm, 216, rfl⟩
abbrev main_cst_15 : Ref sig .tc := ⟨.hbm, 217, rfl⟩
abbrev main_v136 : Ref sig .tc := ⟨.hbm, 218, rfl⟩
abbrev main_v137 : Ref sig .tc := ⟨.hbm, 219, rfl⟩
abbrev main_cst_16 : Ref sig .tc := ⟨.hbm, 220, rfl⟩
abbrev main_v138 : Ref sig .tc := ⟨.hbm, 221, rfl⟩
abbrev main_cst_17 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_cst_18 : Ref sig .tc := ⟨.hbm, 237, rfl⟩
abbrev main_v153 : Ref sig .tc := ⟨.hbm, 238, rfl⟩
abbrev main_v154 : Ref sig .tc := ⟨.hbm, 239, rfl⟩
abbrev main_cst_19 : Ref sig .tc := ⟨.hbm, 240, rfl⟩
abbrev main_v155 : Ref sig .tc := ⟨.hbm, 241, rfl⟩
abbrev main_v156 : Ref sig .tc := ⟨.hbm, 242, rfl⟩
abbrev main_c_20 : Ref sig .tc := ⟨.hbm, 243, rfl⟩
abbrev main_call2_cst : Ref sig .tc := ⟨.hbm, 244, rfl⟩
abbrev main_call2_v0 : Ref sig .tc := ⟨.hbm, 245, rfl⟩
abbrev main_call2_v1 : Ref sig .tc := ⟨.hbm, 246, rfl⟩
abbrev main_call2_cst_0 : Ref sig .tc := ⟨.hbm, 247, rfl⟩
abbrev main_call2_v2 : Ref sig .tc := ⟨.hbm, 248, rfl⟩
abbrev main_call2_v3 : Ref sig .tc := ⟨.hbm, 249, rfl⟩
abbrev main_call2_v4 : Ref sig .tc := ⟨.hbm, 250, rfl⟩
abbrev main_call2_v5 : Ref sig .tc := ⟨.hbm, 251, rfl⟩
abbrev main_call2_v6 : Ref sig .tc := ⟨.hbm, 252, rfl⟩
abbrev main_call2_v7 : Ref sig .tc := ⟨.hbm, 253, rfl⟩
abbrev main_call2_cst_1 : Ref sig .tc := ⟨.hbm, 254, rfl⟩
abbrev main_call2_v8 : Ref sig .tc := ⟨.hbm, 255, rfl⟩
abbrev main_call2_cst_2 : Ref sig .tc := ⟨.hbm, 256, rfl⟩
abbrev main_call2_v9 : Ref sig .tc := ⟨.hbm, 257, rfl⟩
abbrev main_call2_v10 : Ref sig .tc := ⟨.hbm, 258, rfl⟩
abbrev main_call2_v11 : Ref sig .tc := ⟨.hbm, 259, rfl⟩
abbrev main_call2_v12 : Ref sig .tc := ⟨.hbm, 260, rfl⟩
abbrev main_call2_cst_3 : Ref sig .tc := ⟨.hbm, 261, rfl⟩
abbrev main_call2_v13 : Ref sig .tc := ⟨.hbm, 262, rfl⟩
abbrev main_call2_cst_4 : Ref sig .tc := ⟨.hbm, 263, rfl⟩
abbrev main_call2_call0_v0 : Ref sig .tc := ⟨.hbm, 264, rfl⟩
abbrev main_call2_call0_v1 : Ref sig .tc := ⟨.hbm, 265, rfl⟩
abbrev main_v157 : Ref sig .tc := ⟨.hbm, 266, rfl⟩
abbrev main_v158 : Ref sig .tc := ⟨.hbm, 267, rfl⟩
abbrev main_v159 : Ref sig .tc := ⟨.hbm, 268, rfl⟩
abbrev main_cst_21 : Ref sig .tc := ⟨.hbm, 269, rfl⟩
abbrev main_v160 : Ref sig .tc := ⟨.hbm, 270, rfl⟩
abbrev main_v161 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_v190 : Ref sig .tc := ⟨.hbm, 300, rfl⟩
abbrev main_cst_22 : Ref sig .tc := ⟨.hbm, 301, rfl⟩
abbrev main_v191 : Ref sig .tc := ⟨.hbm, 302, rfl⟩
abbrev main_v192 : Ref sig .tc := ⟨.hbm, 303, rfl⟩
abbrev main_cst_23 : Ref sig .tc := ⟨.hbm, 304, rfl⟩
abbrev main_v193 : Ref sig .tc := ⟨.hbm, 305, rfl⟩
abbrev main_v194 : Ref sig .tc := ⟨.hbm, 306, rfl⟩
abbrev main_cst_24 : Ref sig .tc := ⟨.hbm, 307, rfl⟩
abbrev main_v195 : Ref sig .tc := ⟨.hbm, 308, rfl⟩
abbrev main_cst_25 : Ref sig .tc := ⟨.hbm, 309, rfl⟩
abbrev main_v196 : Ref sig .tc := ⟨.hbm, 310, rfl⟩
abbrev main_v197 : Ref sig .tc := ⟨.hbm, 311, rfl⟩
abbrev main_v198 : Ref sig .tc := ⟨.hbm, 312, rfl⟩
abbrev main_v199 : Ref sig .tc := ⟨.hbm, 313, rfl⟩
abbrev main_v200 : Ref sig .tc := ⟨.hbm, 314, rfl⟩
abbrev main_v201 : Ref sig .tc := ⟨.hbm, 315, rfl⟩
abbrev main_v202 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_cst_26 : Ref sig .tc := ⟨.hbm, 324, rfl⟩
abbrev main_v210 : Ref sig .tc := ⟨.hbm, 325, rfl⟩
abbrev main_v211 : Ref sig .tc := ⟨.hbm, 326, rfl⟩
abbrev main_cst_27 : Ref sig .tc := ⟨.hbm, 327, rfl⟩
abbrev main_v212 : Ref sig .tc := ⟨.hbm, 328, rfl⟩
abbrev main_v213 : Ref sig .tc := ⟨.hbm, 329, rfl⟩
abbrev main_c_28 : Ref sig .tc := ⟨.hbm, 330, rfl⟩
abbrev main_call3_cst : Ref sig .tc := ⟨.hbm, 331, rfl⟩
abbrev main_call3_v0 : Ref sig .tc := ⟨.hbm, 332, rfl⟩
abbrev main_call3_v1 : Ref sig .tc := ⟨.hbm, 333, rfl⟩
abbrev main_call3_cst_0 : Ref sig .tc := ⟨.hbm, 334, rfl⟩
abbrev main_call3_v2 : Ref sig .tc := ⟨.hbm, 335, rfl⟩
abbrev main_call3_v3 : Ref sig .tc := ⟨.hbm, 336, rfl⟩
abbrev main_call3_v4 : Ref sig .tc := ⟨.hbm, 337, rfl⟩
abbrev main_call3_v5 : Ref sig .tc := ⟨.hbm, 338, rfl⟩
abbrev main_call3_v6 : Ref sig .tc := ⟨.hbm, 339, rfl⟩
abbrev main_call3_v7 : Ref sig .tc := ⟨.hbm, 340, rfl⟩
abbrev main_call3_cst_1 : Ref sig .tc := ⟨.hbm, 341, rfl⟩
abbrev main_call3_v8 : Ref sig .tc := ⟨.hbm, 342, rfl⟩
abbrev main_call3_cst_2 : Ref sig .tc := ⟨.hbm, 343, rfl⟩
abbrev main_call3_v9 : Ref sig .tc := ⟨.hbm, 344, rfl⟩
abbrev main_call3_v10 : Ref sig .tc := ⟨.hbm, 345, rfl⟩
abbrev main_call3_v11 : Ref sig .tc := ⟨.hbm, 346, rfl⟩
abbrev main_call3_v12 : Ref sig .tc := ⟨.hbm, 347, rfl⟩
abbrev main_call3_cst_3 : Ref sig .tc := ⟨.hbm, 348, rfl⟩
abbrev main_call3_v13 : Ref sig .tc := ⟨.hbm, 349, rfl⟩
abbrev main_call3_cst_4 : Ref sig .tc := ⟨.hbm, 350, rfl⟩
abbrev main_call3_call0_v0 : Ref sig .tc := ⟨.hbm, 351, rfl⟩
abbrev main_call3_call0_v1 : Ref sig .tc := ⟨.hbm, 352, rfl⟩
abbrev main_v214 : Ref sig .tc := ⟨.hbm, 353, rfl⟩
abbrev main_v215 : Ref sig .tc := ⟨.hbm, 354, rfl⟩
abbrev main_v216 : Ref sig .tc := ⟨.hbm, 355, rfl⟩
abbrev main_cst_29 : Ref sig .tc := ⟨.hbm, 356, rfl⟩
abbrev main_v217 : Ref sig .tc := ⟨.hbm, 357, rfl⟩
abbrev main_v218 : Ref sig .tc := ⟨.hbm, 358, rfl⟩
abbrev main_v219 : Ref sig .tc := ⟨.hbm, 359, rfl⟩
abbrev main_v220 : Ref sig .tc := ⟨.hbm, 360, rfl⟩
abbrev main_v221 : Ref sig .tc := ⟨.hbm, 361, rfl⟩
abbrev main_v222 : Ref sig .tc := ⟨.hbm, 362, rfl⟩
abbrev main_v223 : Ref sig .tc := ⟨.hbm, 363, rfl⟩
abbrev main_v224 : Ref sig .tc := ⟨.hbm, 364, rfl⟩
abbrev main_v225 : Ref sig .tc := ⟨.hbm, 365, rfl⟩
abbrev main_v226 : Ref sig .tc := ⟨.hbm, 366, rfl⟩
abbrev main_v227 : Ref sig .tc := ⟨.hbm, 367, rfl⟩
abbrev main_v228 : Ref sig .tc := ⟨.hbm, 368, rfl⟩
abbrev main_v229 : Ref sig .tc := ⟨.hbm, 369, rfl⟩
abbrev main_v230 : Ref sig .tc := ⟨.hbm, 370, rfl⟩
abbrev main_v231 : Ref sig .tc := ⟨.hbm, 371, rfl⟩
abbrev main_v232 : Ref sig .tc := ⟨.hbm, 372, rfl⟩
abbrev main_v233 : Ref sig .tc := ⟨.hbm, 373, rfl⟩
abbrev main_v234 : Ref sig .tc := ⟨.hbm, 374, rfl⟩
abbrev main_v235 : Ref sig .tc := ⟨.hbm, 375, rfl⟩
abbrev main_v236 : Ref sig .tc := ⟨.hbm, 376, rfl⟩
abbrev main_v237 : Ref sig .tc := ⟨.hbm, 377, rfl⟩
abbrev main_v238 : Ref sig .tc := ⟨.hbm, 378, rfl⟩
abbrev main_v239 : Ref sig .tc := ⟨.hbm, 379, rfl⟩
abbrev main_v240 : Ref sig .tc := ⟨.hbm, 380, rfl⟩
abbrev main_v241 : Ref sig .tc := ⟨.hbm, 381, rfl⟩
abbrev main_v242 : Ref sig .tc := ⟨.hbm, 382, rfl⟩
abbrev main_v243 : Ref sig .tc := ⟨.hbm, 383, rfl⟩
abbrev main_v244 : Ref sig .tc := ⟨.hbm, 384, rfl⟩
abbrev main_v245 : Ref sig .tc := ⟨.hbm, 385, rfl⟩
abbrev main_v246 : Ref sig .tc := ⟨.hbm, 386, rfl⟩
abbrev main_v247 : Ref sig .tc := ⟨.hbm, 387, rfl⟩
abbrev main_cst_30 : Ref sig .tc := ⟨.hbm, 388, rfl⟩
abbrev main_v248 : Ref sig .tc := ⟨.hbm, 389, rfl⟩
abbrev main_v249 : Ref sig .tc := ⟨.hbm, 390, rfl⟩
abbrev main_cst_31 : Ref sig .tc := ⟨.hbm, 391, rfl⟩
abbrev main_v250 : Ref sig .tc := ⟨.hbm, 392, rfl⟩
abbrev main_v251 : Ref sig .tc := ⟨.hbm, 393, rfl⟩
abbrev main_cst_32 : Ref sig .tc := ⟨.hbm, 394, rfl⟩
abbrev main_v252 : Ref sig .tc := ⟨.hbm, 395, rfl⟩
abbrev main_cst_33 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_v256 : Ref sig .tc := ⟨.hbm, 400, rfl⟩
abbrev main_v257 : Ref sig .tc := ⟨.hbm, 401, rfl⟩
abbrev main_v258 : Ref sig .tc := ⟨.hbm, 402, rfl⟩
abbrev main_v259 : Ref sig .tc := ⟨.hbm, 403, rfl⟩
abbrev main_v260 : Ref sig .tc := ⟨.hbm, 404, rfl⟩
abbrev main_v261 : Ref sig .tc := ⟨.hbm, 405, rfl⟩
abbrev main_v262 : Ref sig .tc := ⟨.hbm, 406, rfl⟩
abbrev main_v263 : Ref sig .tc := ⟨.hbm, 407, rfl⟩
abbrev main_v264 : Ref sig .tc := ⟨.hbm, 408, rfl⟩
abbrev main_v265 : Ref sig .tc := ⟨.hbm, 409, rfl⟩
abbrev main_v266 : Ref sig .tc := ⟨.hbm, 410, rfl⟩
abbrev main_cst_34 : Ref sig .tc := ⟨.hbm, 411, rfl⟩
abbrev main_v267 : Ref sig .tc := ⟨.hbm, 412, rfl⟩
abbrev main_v268 : Ref sig .tc := ⟨.hbm, 413, rfl⟩
abbrev main_cst_35 : Ref sig .tc := ⟨.hbm, 414, rfl⟩
abbrev main_v269 : Ref sig .tc := ⟨.hbm, 415, rfl⟩
abbrev main_v270 : Ref sig .tc := ⟨.hbm, 416, rfl⟩
abbrev main_c_36 : Ref sig .tc := ⟨.hbm, 417, rfl⟩
abbrev main_call4_cst : Ref sig .tc := ⟨.hbm, 418, rfl⟩
abbrev main_call4_v0 : Ref sig .tc := ⟨.hbm, 419, rfl⟩
abbrev main_call4_v1 : Ref sig .tc := ⟨.hbm, 420, rfl⟩
abbrev main_call4_cst_0 : Ref sig .tc := ⟨.hbm, 421, rfl⟩
abbrev main_call4_v2 : Ref sig .tc := ⟨.hbm, 422, rfl⟩
abbrev main_call4_v3 : Ref sig .tc := ⟨.hbm, 423, rfl⟩
abbrev main_call4_v4 : Ref sig .tc := ⟨.hbm, 424, rfl⟩
abbrev main_call4_v5 : Ref sig .tc := ⟨.hbm, 425, rfl⟩
abbrev main_call4_v6 : Ref sig .tc := ⟨.hbm, 426, rfl⟩
abbrev main_call4_v7 : Ref sig .tc := ⟨.hbm, 427, rfl⟩
abbrev main_call4_cst_1 : Ref sig .tc := ⟨.hbm, 428, rfl⟩
abbrev main_call4_v8 : Ref sig .tc := ⟨.hbm, 429, rfl⟩
abbrev main_call4_cst_2 : Ref sig .tc := ⟨.hbm, 430, rfl⟩
abbrev main_call4_v9 : Ref sig .tc := ⟨.hbm, 431, rfl⟩
abbrev main_call4_v10 : Ref sig .tc := ⟨.hbm, 432, rfl⟩
abbrev main_call4_v11 : Ref sig .tc := ⟨.hbm, 433, rfl⟩
abbrev main_call4_v12 : Ref sig .tc := ⟨.hbm, 434, rfl⟩
abbrev main_call4_cst_3 : Ref sig .tc := ⟨.hbm, 435, rfl⟩
abbrev main_call4_v13 : Ref sig .tc := ⟨.hbm, 436, rfl⟩
abbrev main_call4_cst_4 : Ref sig .tc := ⟨.hbm, 437, rfl⟩
abbrev main_call4_call0_v0 : Ref sig .tc := ⟨.hbm, 438, rfl⟩
abbrev main_call4_call0_v1 : Ref sig .tc := ⟨.hbm, 439, rfl⟩
abbrev main_v271 : Ref sig .tc := ⟨.hbm, 440, rfl⟩
abbrev main_v272 : Ref sig .tc := ⟨.hbm, 441, rfl⟩
abbrev main_v273 : Ref sig .tc := ⟨.hbm, 442, rfl⟩
abbrev main_cst_37 : Ref sig .tc := ⟨.hbm, 443, rfl⟩
abbrev main_v274 : Ref sig .tc := ⟨.hbm, 444, rfl⟩
abbrev main_v275 : Ref sig .tc := ⟨.hbm, 445, rfl⟩
abbrev main_v276 : Ref sig .tc := ⟨.hbm, 446, rfl⟩
abbrev main_v277 : Ref sig .tc := ⟨.hbm, 447, rfl⟩
abbrev main_v278 : Ref sig .tc := ⟨.hbm, 448, rfl⟩
abbrev main_v279 : Ref sig .tc := ⟨.hbm, 449, rfl⟩
abbrev main_v280 : Ref sig .tc := ⟨.hbm, 450, rfl⟩
abbrev main_v281 : Ref sig .tc := ⟨.hbm, 451, rfl⟩
abbrev main_v282 : Ref sig .tc := ⟨.hbm, 452, rfl⟩
abbrev main_v283 : Ref sig .tc := ⟨.hbm, 453, rfl⟩
abbrev main_v284 : Ref sig .tc := ⟨.hbm, 454, rfl⟩
abbrev main_v285 : Ref sig .tc := ⟨.hbm, 455, rfl⟩
abbrev main_v286 : Ref sig .tc := ⟨.hbm, 456, rfl⟩
abbrev main_v287 : Ref sig .tc := ⟨.hbm, 457, rfl⟩
abbrev main_v288 : Ref sig .tc := ⟨.hbm, 458, rfl⟩
abbrev main_v289 : Ref sig .tc := ⟨.hbm, 459, rfl⟩
abbrev main_v290 : Ref sig .tc := ⟨.hbm, 460, rfl⟩
abbrev main_v291 : Ref sig .tc := ⟨.hbm, 461, rfl⟩
abbrev main_v292 : Ref sig .tc := ⟨.hbm, 462, rfl⟩
abbrev main_v293 : Ref sig .tc := ⟨.hbm, 463, rfl⟩
abbrev main_v294 : Ref sig .tc := ⟨.hbm, 464, rfl⟩
abbrev main_v295 : Ref sig .tc := ⟨.hbm, 465, rfl⟩
abbrev main_v296 : Ref sig .tc := ⟨.hbm, 466, rfl⟩
abbrev main_v297 : Ref sig .tc := ⟨.hbm, 467, rfl⟩
abbrev main_v298 : Ref sig .tc := ⟨.hbm, 468, rfl⟩
abbrev main_v299 : Ref sig .tc := ⟨.hbm, 469, rfl⟩
abbrev main_v300 : Ref sig .tc := ⟨.hbm, 470, rfl⟩
abbrev main_v301 : Ref sig .tc := ⟨.hbm, 471, rfl⟩
abbrev main_v302 : Ref sig .tc := ⟨.hbm, 472, rfl⟩
abbrev main_v303 : Ref sig .tc := ⟨.hbm, 473, rfl⟩
abbrev main_v304 : Ref sig .tc := ⟨.hbm, 474, rfl⟩
abbrev main_cst_38 : Ref sig .tc := ⟨.hbm, 475, rfl⟩
abbrev main_v305 : Ref sig .tc := ⟨.hbm, 476, rfl⟩
abbrev main_v306 : Ref sig .tc := ⟨.hbm, 477, rfl⟩
abbrev main_cst_39 : Ref sig .tc := ⟨.hbm, 478, rfl⟩
abbrev main_v307 : Ref sig .tc := ⟨.hbm, 479, rfl⟩
abbrev main_v308 : Ref sig .tc := ⟨.hbm, 480, rfl⟩
abbrev main_cst_40 : Ref sig .tc := ⟨.hbm, 481, rfl⟩
abbrev main_v309 : Ref sig .tc := ⟨.hbm, 482, rfl⟩
abbrev main_cst_41 : Ref sig .tc := ⟨.hbm, 483, rfl⟩
abbrev main_v310 : Ref sig .tc := ⟨.hbm, 484, rfl⟩
abbrev main_v311 : Ref sig .tc := ⟨.hbm, 485, rfl⟩
abbrev main_v312 : Ref sig .tc := ⟨.hbm, 486, rfl⟩
abbrev main_v313 : Ref sig .tc := ⟨.hbm, 487, rfl⟩
abbrev main_v314 : Ref sig .tc := ⟨.hbm, 488, rfl⟩
abbrev main_v315 : Ref sig .tc := ⟨.hbm, 489, rfl⟩
abbrev main_v316 : Ref sig .tc := ⟨.hbm, 490, rfl⟩
abbrev main_v317 : Ref sig .tc := ⟨.hbm, 491, rfl⟩
abbrev main_v318 : Ref sig .tc := ⟨.hbm, 492, rfl⟩
abbrev main_v319 : Ref sig .tc := ⟨.hbm, 493, rfl⟩
abbrev main_v320 : Ref sig .tc := ⟨.hbm, 494, rfl⟩
abbrev main_v321 : Ref sig .tc := ⟨.hbm, 495, rfl⟩
abbrev main_v322 : Ref sig .tc := ⟨.hbm, 496, rfl⟩
abbrev main_v323 : Ref sig .tc := ⟨.hbm, 497, rfl⟩
abbrev main_cst_42 : Ref sig .tc := ⟨.hbm, 498, rfl⟩
abbrev main_v324 : Ref sig .tc := ⟨.hbm, 499, rfl⟩
abbrev main_v325 : Ref sig .tc := ⟨.hbm, 500, rfl⟩
abbrev main_cst_43 : Ref sig .tc := ⟨.hbm, 501, rfl⟩
abbrev main_v326 : Ref sig .tc := ⟨.hbm, 502, rfl⟩
abbrev main_v327 : Ref sig .tc := ⟨.hbm, 503, rfl⟩
abbrev main_c_44 : Ref sig .tc := ⟨.hbm, 504, rfl⟩
abbrev main_call5_cst : Ref sig .tc := ⟨.hbm, 505, rfl⟩
abbrev main_call5_v0 : Ref sig .tc := ⟨.hbm, 506, rfl⟩
abbrev main_call5_v1 : Ref sig .tc := ⟨.hbm, 507, rfl⟩
abbrev main_call5_cst_0 : Ref sig .tc := ⟨.hbm, 508, rfl⟩
abbrev main_call5_v2 : Ref sig .tc := ⟨.hbm, 509, rfl⟩
abbrev main_call5_v3 : Ref sig .tc := ⟨.hbm, 510, rfl⟩
abbrev main_call5_v4 : Ref sig .tc := ⟨.hbm, 511, rfl⟩
abbrev main_call5_v5 : Ref sig .tc := ⟨.hbm, 512, rfl⟩
abbrev main_call5_v6 : Ref sig .tc := ⟨.hbm, 513, rfl⟩
abbrev main_call5_v7 : Ref sig .tc := ⟨.hbm, 514, rfl⟩
abbrev main_call5_cst_1 : Ref sig .tc := ⟨.hbm, 515, rfl⟩
abbrev main_call5_v8 : Ref sig .tc := ⟨.hbm, 516, rfl⟩
abbrev main_call5_cst_2 : Ref sig .tc := ⟨.hbm, 517, rfl⟩
abbrev main_call5_v9 : Ref sig .tc := ⟨.hbm, 518, rfl⟩
abbrev main_call5_v10 : Ref sig .tc := ⟨.hbm, 519, rfl⟩
abbrev main_call5_v11 : Ref sig .tc := ⟨.hbm, 520, rfl⟩
abbrev main_call5_v12 : Ref sig .tc := ⟨.hbm, 521, rfl⟩
abbrev main_call5_cst_3 : Ref sig .tc := ⟨.hbm, 522, rfl⟩
abbrev main_call5_v13 : Ref sig .tc := ⟨.hbm, 523, rfl⟩
abbrev main_call5_cst_4 : Ref sig .tc := ⟨.hbm, 524, rfl⟩
abbrev main_call5_call0_v0 : Ref sig .tc := ⟨.hbm, 525, rfl⟩
abbrev main_call5_call0_v1 : Ref sig .tc := ⟨.hbm, 526, rfl⟩
abbrev main_v328 : Ref sig .tc := ⟨.hbm, 527, rfl⟩
abbrev main_v329 : Ref sig .tc := ⟨.hbm, 528, rfl⟩
abbrev main_v330 : Ref sig .tc := ⟨.hbm, 529, rfl⟩
abbrev main_cst_45 : Ref sig .tc := ⟨.hbm, 530, rfl⟩
abbrev main_v331 : Ref sig .tc := ⟨.hbm, 531, rfl⟩
abbrev main_v332 : Ref sig .tc := ⟨.hbm, 532, rfl⟩
abbrev main_v333 : Ref sig .tc := ⟨.hbm, 533, rfl⟩
abbrev main_v334 : Ref sig .tc := ⟨.hbm, 534, rfl⟩
abbrev main_v335 : Ref sig .tc := ⟨.hbm, 535, rfl⟩
abbrev main_v336 : Ref sig .tc := ⟨.hbm, 536, rfl⟩
abbrev main_v337 : Ref sig .tc := ⟨.hbm, 537, rfl⟩
abbrev main_v338 : Ref sig .tc := ⟨.hbm, 538, rfl⟩
abbrev main_v339 : Ref sig .tc := ⟨.hbm, 539, rfl⟩
abbrev main_v340 : Ref sig .tc := ⟨.hbm, 540, rfl⟩
abbrev main_v341 : Ref sig .tc := ⟨.hbm, 541, rfl⟩
abbrev main_v342 : Ref sig .tc := ⟨.hbm, 542, rfl⟩
abbrev main_v343 : Ref sig .tc := ⟨.hbm, 543, rfl⟩
abbrev main_v344 : Ref sig .tc := ⟨.hbm, 544, rfl⟩
abbrev main_v345 : Ref sig .tc := ⟨.hbm, 545, rfl⟩
abbrev main_cst_46 : Ref sig .tc := ⟨.hbm, 546, rfl⟩
abbrev main_v346 : Ref sig .tc := ⟨.hbm, 547, rfl⟩
abbrev main_cst_47 : Ref sig .tc := ⟨.hbm, 548, rfl⟩
abbrev main_v347 : Ref sig .tc := ⟨.hbm, 549, rfl⟩
abbrev main_v348 : Ref sig .tc := ⟨.hbm, 550, rfl⟩
abbrev main_v349 : Ref sig .tc := ⟨.hbm, 551, rfl⟩
abbrev main_v350 : Ref sig .tc := ⟨.hbm, 552, rfl⟩
abbrev main_v351 : Ref sig .tc := ⟨.hbm, 553, rfl⟩
abbrev main_v352 : Ref sig .tc := ⟨.hbm, 554, rfl⟩
abbrev main_cst_48 : Ref sig .tc := ⟨.hbm, 555, rfl⟩
abbrev main_v353 : Ref sig .tc := ⟨.hbm, 556, rfl⟩
abbrev main_v354 : Ref sig .tc := ⟨.hbm, 557, rfl⟩
abbrev main_v355 : Ref sig .tc := ⟨.hbm, 558, rfl⟩
abbrev main_v356 : Ref sig .tc := ⟨.hbm, 559, rfl⟩
abbrev main_v357 : Ref sig .tc := ⟨.hbm, 560, rfl⟩
abbrev main_v358 : Ref sig .tc := ⟨.hbm, 561, rfl⟩
abbrev main_v359 : Ref sig .tc := ⟨.hbm, 562, rfl⟩
abbrev main_v360 : Ref sig .tc := ⟨.hbm, 563, rfl⟩
abbrev main_v361 : Ref sig .tc := ⟨.hbm, 564, rfl⟩

abbrev nD : Nat := 1
abbrev τ : Topo := Topo.v7x

variable {F : FTy → Type} [FloatOps F]
-- ==== Proof.PreFacts.lean ====
/- The side conditions of the precondition's operations. -/
module

public import proofs.«01_k».proof.Pre_finite
public import Idealize.ShloMosaic.Lib.Decide

@[expose] public section

namespace Cert.Pre_finite

open Idealize.ShloMosaic

/-- Every side condition the precondition states holds. -/
theorem facts : Facts where
  bcast_S_S2x2048x1024 := by decide
  reducesTo_S2x2048x1024_S_d0_1_2 := by decide
  h_S_ := by decide
  bcast_S_S3x1024 := by decide
  reducesTo_S3x1024_S_d0_1 := by decide
  bcast_S_S3x1024x1024 := by decide
  reducesTo_S3x1024x1024_S_d0_1_2 := by decide

end Cert.Pre_finite

end
-- ==== Proof.RowMath.lean ====
/- One layer on one row of 1024 extended reals, in the kernel's spelling and in the reference's, and why
   the two agree where the row and the layer's decay, output projection and norm parameters are real. -/
module
public import Idealize.ShloMosaic.Lib.Pointwise

@[expose] public section
noncomputable section
open Idealize.ShloMosaic
namespace Cert.RowMath

/-- The parameters of one layer. -/
structure Layer where
  win : Fin 1024 → Fin 1024 → EReal
  bin : Fin 1024 → EReal
  dec : Fin 1024 → EReal
  wout : Fin 1024 → Fin 1024 → EReal
  bout : Fin 1024 → EReal
  gam : Fin 1024 → EReal
  bet : Fin 1024 → EReal

/-- The row length as the programs print it. -/
abbrev cN : EReal := Ideal.ofBits .f32 1149239296#32
/-- The norm's small constant. -/
abbrev cE : EReal := Ideal.ofBits .f32 925353388#32
/-- One half. -/
abbrev cH : EReal := Ideal.ofBits .f32 1056964608#32

/-- The gate's argument. -/
def lin (L : Layer) (h : Fin 1024 → EReal) (j : Fin 1024) : EReal := ∑ x, h x * L.win x j + L.bin j

/-- The kernel's gate. -/
def kerGate (v : EReal) : EReal := cH * Ideal.tanh (cH * v) + cH
/-- The reference's gate. -/
def refGate (v : EReal) : EReal := Ideal.div 1 (1 + Ideal.exp (-v))

/-- What the kernel's layer normalises. -/
def kerPre (L : Layer) (h : Fin 1024 → EReal) (j : Fin 1024) : EReal :=
  ∑ x, kerGate (lin L h x) * h x * L.dec x * L.wout x j + L.bout j + h j
/-- What the reference's layer normalises. -/
def refPre (L : Layer) (h : Fin 1024 → EReal) (j : Fin 1024) : EReal :=
  ∑ x, ((1 - refGate (lin L h x)) * 0 + refGate (lin L h x) * (h x * L.dec x)) * L.wout x j + L.bout j + h j

/-- The kernel's layer norm. -/
def kerNorm (g b y : Fin 1024 → EReal) (j : Fin 1024) : EReal :=
  y j * (Ideal.rsqrt (Ideal.div (∑ x, y x * y x) cN - Ideal.div (∑ x, y x) cN * Ideal.div (∑ x, y x) cN + cE) * g j)
    + (b j - Ideal.div (∑ x, y x) cN * (Ideal.rsqrt (Ideal.div (∑ x, y x * y x) cN - Ideal.div (∑ x, y x) cN * Ideal.div (∑ x, y x) cN + cE) * g j))
/-- The reference's layer norm. -/
def refNorm (g b y : Fin 1024 → EReal) (j : Fin 1024) : EReal :=
  Ideal.div (y j - Ideal.div (∑ x, y x) cN)
      (Ideal.sqrt ((if 0 < cN - FloatOps.sitofp (F := Ideal) FTy.f32 0#32 then
          Ideal.div (∑ x, (y x - Ideal.div (∑ x, y x) cN) * (y x - Ideal.div (∑ x, y x) cN)) (cN - FloatOps.sitofp (F := Ideal) FTy.f32 0#32)
        else Ideal.ofBits FTy.f32 2143289344#32) + cE)) * g j + b j

/-- The kernel's layer on a row. -/
def kerLayer (L : Layer) (h : Fin 1024 → EReal) : Fin 1024 → EReal := kerNorm L.gam L.bet (kerPre L h)
/-- The reference's layer on a row. -/
def refLayer (L : Layer) (h : Fin 1024 → EReal) : Fin 1024 → EReal := refNorm L.gam L.bet (refPre L h)

/-- A real number among the extended reals. -/
def Real' (x : EReal) : Prop := ∃ r : ℝ, x = (r : EReal)

/-- The parameters that must be real. -/
structure Good (L : Layer) : Prop where
  dec : ∀ j, Real' (L.dec j)
  wout : ∀ i j, Real' (L.wout i j)
  bout : ∀ j, Real' (L.bout j)
  gam : ∀ j, Real' (L.gam j)
  bet : ∀ j, Real' (L.bet j)

theorem cN_eq : cN = ((1024 : ℝ) : EReal) := by
  simp [cN, Ideal.ofBits, Ideal.ieee, -EReal.coe_mul]; norm_num
theorem cH_eq : cH = ((1 / 2 : ℝ) : EReal) := by
  simp [cH, Ideal.ofBits, Ideal.ieee, -EReal.coe_mul]; norm_num
theorem cE_pos : ∃ e : ℝ, 0 < e ∧ cE = (e : EReal) := by
  refine ⟨_, ?_, by simp [cE, Ideal.ofBits, Ideal.ieee, -EReal.coe_mul]; rfl⟩
  norm_num
theorem sitofp_eq : (FloatOps.sitofp (F := Ideal) FTy.f32 0#32 : EReal) = 0 := by
  rw [show (FloatOps.sitofp (F := Ideal) FTy.f32 0#32 : EReal) = ((((0#32).toInt : ℤ) : ℝ) : EReal) from rfl]
  simp

theorem coe_sum {ι : Type} (s : Finset ι) (f : ι → ℝ) : (∑ x ∈ s, ((f x : ℝ) : EReal)) = ((∑ x ∈ s, f x : ℝ) : EReal) := by
  classical
  induction s using Finset.induction_on with
  | empty => simp
  | insert a s ha ih => rw [Finset.sum_insert ha, Finset.sum_insert ha, ih, EReal.coe_add]

/-- The hyperbolic tangent of half a number, as the logistic function. -/
theorem half_tanh (r : ℝ) : 1 / 2 * Real.tanh (1 / 2 * r) + 1 / 2 = 1 / (1 + Real.exp (-r)) := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  have hp := Real.exp_pos (1 / 2 * r)
  have hq := Real.exp_pos (-(1 / 2 * r))
  rw [Real.tanh_eq_sinh_div_cosh, Real.sinh_eq, Real.cosh_eq, h1]
  generalize Real.exp (1 / 2 * r) = a at *
  generalize Real.exp (-(1 / 2 * r)) = c at *
  field_simp
  nlinarith

/-- The two gates are one function, and its values are real. -/
theorem gate_eq (v : EReal) : ∃ r : ℝ, kerGate v = (r : EReal) ∧ refGate v = (r : EReal) := by
  induction v with
  | bot =>
    refine ⟨0, ?_, ?_⟩
    · rw [kerGate, cH_eq, EReal.coe_mul_bot_of_pos (by norm_num)]
      rw [show Ideal.tanh ⊥ = ((-1 : ℝ) : EReal) from rfl, ← EReal.coe_mul, ← EReal.coe_add]
      norm_num
    · rw [refGate, EReal.neg_bot, show Ideal.exp ⊤ = ⊤ from rfl, show (1 : EReal) = ((1 : ℝ) : EReal) from rfl, EReal.coe_add_top]
      simp [Ideal.div]
  | top =>
    refine ⟨1, ?_, ?_⟩
    · rw [kerGate, cH_eq, EReal.coe_mul_top_of_pos (by norm_num)]
      rw [show Ideal.tanh ⊤ = ((1 : ℝ) : EReal) from rfl, ← EReal.coe_mul, ← EReal.coe_add]
      norm_num
    · rw [refGate, EReal.neg_top, show Ideal.exp ⊥ = 0 from rfl, add_zero, show (1 : EReal) = ((1 : ℝ) : EReal) from rfl,
        Ideal.div_coe (by norm_num), ← EReal.coe_mul]
      norm_num
  | coe r =>
    have hp := Real.exp_pos (-r)
    refine ⟨1 / (1 + Real.exp (-r)), ?_, ?_⟩
    · rw [kerGate, cH_eq, ← EReal.coe_mul, show ∀ t : ℝ, Ideal.tanh (t : EReal) = ((Real.tanh t : ℝ) : EReal) from fun _ => rfl,
        ← EReal.coe_mul, ← EReal.coe_add, half_tanh]
    · rw [refGate, ← EReal.coe_neg, show ∀ t : ℝ, Ideal.exp (t : EReal) = ((Real.exp t : ℝ) : EReal) from fun _ => rfl,
        show (1 : EReal) = ((1 : ℝ) : EReal) from rfl, ← EReal.coe_add, Ideal.div_coe (by positivity), ← EReal.coe_mul, one_mul]

/-- What is normalised agrees and is real. -/
theorem pre_eq (L : Layer) (hL : Good L) (h : Fin 1024 → EReal) (hh : ∀ j, Real' (h j)) :
    ∃ y : Fin 1024 → ℝ, (∀ j, kerPre L h j = (y j : EReal)) ∧ (∀ j, refPre L h j = (y j : EReal)) := by
  choose g hg hg' using fun x => gate_eq (lin L h x)
  choose a ha using hh
  choose d hd using hL.dec
  choose w hw using hL.wout
  choose b hb using hL.bout
  refine ⟨fun j => ∑ x, g x * a x * d x * w x j + b j + a j, fun j => ?_, fun j => ?_⟩
  · simp only [kerPre, hg, ha, hd, hw, hb, ← EReal.coe_mul, coe_sum, ← EReal.coe_add]
  · simp only [refPre, hg', ha, hd, hw, hb, mul_zero, zero_add, ← EReal.coe_mul, coe_sum, ← EReal.coe_add]
    simp only [mul_assoc]

/-- The mean of the squares less the square of the mean is the mean of the squared deviations. -/
theorem var_eq (y : Fin 1024 → ℝ) :
    (∑ x, y x * y x) * (1 / 1024) - (∑ x, y x) * (1 / 1024) * ((∑ x, y x) * (1 / 1024))
      = (∑ x, (y x - (∑ x, y x) * (1 / 1024)) * (y x - (∑ x, y x) * (1 / 1024))) * (1 / 1024) := by
  generalize hS : ∑ x, y x = S
  have : ∑ x, (y x - S * (1 / 1024)) * (y x - S * (1 / 1024)) = ∑ x, y x * y x - 2 * (S * (1 / 1024)) * S + 1024 * ((S * (1 / 1024)) * (S * (1 / 1024))) := by
    have e : ∀ x, (y x - S * (1 / 1024)) * (y x - S * (1 / 1024)) = y x * y x - 2 * (S * (1 / 1024)) * y x + (S * (1 / 1024)) * (S * (1 / 1024)) := fun x => by ring
    simp only [e, Finset.sum_add_distrib, Finset.sum_sub_distrib, ← Finset.mul_sum, hS, Finset.sum_const, Finset.card_univ, Fintype.card_fin, nsmul_eq_mul]
    norm_num
    ring
  rw [this]; ring

theorem div_cN (x : ℝ) : Ideal.div (x : EReal) cN = ((x * (1 / 1024) : ℝ) : EReal) := by
  rw [cN_eq, Ideal.div_coe (by norm_num), ← EReal.coe_mul]

/-- The two norms agree on a real row and are real. -/
theorem norm_eq (y g b : Fin 1024 → EReal) (hy : ∀ j, Real' (y j)) (hg : ∀ j, Real' (g j)) (hb : ∀ j, Real' (b j)) (j : Fin 1024) :
    kerNorm g b y j = refNorm g b y j ∧ Real' (kerNorm g b y j) := by
  choose r hr using hy
  choose s hs using hg
  choose t ht using hb
  obtain ⟨e, he, hE⟩ := cE_pos
  have hv : 0 ≤ (∑ x, (r x - (∑ x, r x) * (1 / 1024)) * (r x - (∑ x, r x) * (1 / 1024))) * (1 / 1024) :=
    mul_nonneg (Finset.sum_nonneg fun x _ => mul_self_nonneg _) (by norm_num)
  have hpos : 0 < (∑ x, (r x - (∑ x, r x) * (1 / 1024)) * (r x - (∑ x, r x) * (1 / 1024))) * (1 / 1024) + e := by linarith
  have hk : kerNorm g b y j = ((r j * ((Real.sqrt ((∑ x, (r x - (∑ x, r x) * (1 / 1024)) * (r x - (∑ x, r x) * (1 / 1024))) * (1 / 1024) + e))⁻¹ * s j)
      + (t j - (∑ x, r x) * (1 / 1024) * ((Real.sqrt ((∑ x, (r x - (∑ x, r x) * (1 / 1024)) * (r x - (∑ x, r x) * (1 / 1024))) * (1 / 1024) + e))⁻¹ * s j)) : ℝ) : EReal) := by
    simp only [kerNorm, hr, hs, ht, hE, ← EReal.coe_mul, coe_sum, div_cN, ← EReal.coe_sub, ← EReal.coe_add, var_eq]
    rw [Ideal.rsqrt_coe, if_neg (not_lt.2 hpos.le), if_neg hpos.ne']
    simp only [← EReal.coe_mul, ← EReal.coe_sub, ← EReal.coe_add]
  have hlt : (0 : EReal) < cN := by rw [cN_eq]; exact_mod_cast (by norm_num : (0 : ℝ) < 1024)
  have hq : Real.sqrt ((∑ x, (r x - (∑ x, r x) * (1 / 1024)) * (r x - (∑ x, r x) * (1 / 1024))) * (1 / 1024) + e) ≠ 0 := (Real.sqrt_pos.2 hpos).ne'
  refine ⟨?_, _, hk⟩
  rw [hk]
  simp only [refNorm, sitofp_eq, sub_zero, if_pos hlt, hr, hs, ht, hE, coe_sum, div_cN, ← EReal.coe_sub, ← EReal.coe_mul, ← EReal.coe_add]
  rw [Ideal.sqrt_coe, if_neg (not_lt.2 hpos.le), Ideal.div_coe hq]
  simp only [← EReal.coe_mul, ← EReal.coe_add, EReal.coe_eq_coe_iff]
  rw [one_div]; ring

/-- One layer: the kernel's and the reference's agree on a real row, and their values are real. -/
theorem layer_eq (L : Layer) (hL : Good L) (h : Fin 1024 → EReal) (hh : ∀ j, Real' (h j)) :
    kerLayer L h = refLayer L h ∧ ∀ j, Real' (kerLayer L h j) := by
  obtain ⟨y, hk, hr⟩ := pre_eq L hL h hh
  have e : kerPre L h = refPre L h := funext fun j => (hk j).trans (hr j).symm
  have n := norm_eq (kerPre L h) L.gam L.bet (fun j => ⟨_, hk j⟩) hL.gam hL.bet
  refine ⟨funext fun j => ?_, fun j => (n j).2⟩
  rw [kerLayer, refLayer, ← e]; exact (n j).1

/-- The kernel's three layers. -/
def kerStack (L : Fin 3 → Layer) (h : Fin 1024 → EReal) : Fin 1024 → EReal := kerLayer (L 2) (kerLayer (L 1) (kerLayer (L 0) h))
/-- The reference's three layers. -/
def refStack (L : Fin 3 → Layer) (h : Fin 1024 → EReal) : Fin 1024 → EReal := refLayer (L 2) (refLayer (L 1) (refLayer (L 0) h))

theorem stack_eq (L : Fin 3 → Layer) (hL : ∀ n, Good (L n)) (h : Fin 1024 → EReal) (hh : ∀ j, Real' (h j)) : kerStack L h = refStack L h := by
  obtain ⟨e0, r0⟩ := layer_eq (L 0) (hL 0) h hh
  obtain ⟨e1, r1⟩ := layer_eq (L 1) (hL 1) _ r0
  obtain ⟨e2, _⟩ := layer_eq (L 2) (hL 2) _ r1
  rw [kerStack, refStack, e2, e1, e0]

/-- The gate's logits of one row. -/
def logit (Wg : Fin 1024 → Fin 4 → EReal) (bg : Fin 4 → EReal) (z : Fin 1024 → EReal) (e : Fin 4) : EReal := ∑ x, z x * Wg x e + bg e

/-- The softmax of one row of logits. -/
def soft (l : Fin 4 → EReal) (e : Fin 4) : EReal :=
  Ideal.div (Ideal.exp (l e - max (Ideal.ofBits FTy.f32 4286578688#32) (Finset.univ.fold max (Ideal.ofBits FTy.f32 4286578688#32) l)))
    (∑ x, Ideal.exp (l x - max (Ideal.ofBits FTy.f32 4286578688#32) (Finset.univ.fold max (Ideal.ofBits FTy.f32 4286578688#32) l)))

/-- The experts' outputs weighted by the gate's probabilities. -/
def mix (p : Fin 4 → EReal) (We : Fin 4 → Fin 1024 → Fin 1024 → EReal) (be : Fin 4 → Fin 1024 → EReal) (z : Fin 1024 → EReal) (j : Fin 1024) : EReal :=
  p 0 * (∑ x, z x * We 0 x j + be 0 j) + p 1 * (∑ x, z x * We 1 x j + be 1 j) + p 2 * (∑ x, z x * We 2 x j + be 2 j) + p 3 * (∑ x, z x * We 3 x j + be 3 j)

/-- Layer `n` of a stack's parameter arrays. -/
def layerOf (Win : Fin 3 → Fin 1024 → Fin 1024 → EReal) (bin dec : Fin 3 → Fin 1024 → EReal) (Wout : Fin 3 → Fin 1024 → Fin 1024 → EReal)
    (bout gam bet : Fin 3 → Fin 1024 → EReal) (n : Fin 3) : Layer := ⟨Win n, bin n, dec n, Wout n, bout n, gam n, bet n⟩

end Cert.RowMath
end
-- ==== Proof.PreReal.lean ====
/- The precondition read: every entry of the twelve arrays it names is a real number. -/
module
public import proofs.«01_k».proof.Proof.PreFacts
public import proofs.«01_k».proof.Proof.RowMath
public import Idealize.ShloMosaic.Lib.ReduceAll

@[expose] public section
noncomputable section
open Idealize.ShloMosaic
namespace Cert.Pre_finite
open Facts Cert.RowMath

theorem top_eq : Ideal.ofBits .f32 0x7F800000#32 = ⊤ := by
  simp [Ideal.ofBits, Ideal.ieee]

/-- A number whose absolute value is below the top is real. -/
theorem real_of_abs_lt (x : EReal) (h : max x (-x) < ⊤) : Real' x := by
  induction x with
  | bot => simp at h
  | top => simp at h
  | coe r => exact ⟨r, rfl⟩

theorem scalar_subsingleton : Subsingleton S_.Idx := ⟨fun a b => funext fun d => d.elim0⟩

/-- One array's part of the precondition. -/
theorem all_real {s : Shape} {axes : List (Fin s.rank)} (x : FVec Ideal s .f32) (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1) (i : s.Idx) : Real' (x i) := by
  haveI := scalar_subsingleton
  have h := Host.reduce_andi_all _ _ hr hu j e i
  have h' : BitVec.ofBool (decide (max (x i) (-x i) < Ideal.ofBits .f32 0x7F800000#32)) = 1#1 := h
  rw [top_eq] at h'
  refine real_of_abs_lt (x i) ?_
  by_contra hn
  rw [decide_eq_false hn] at h'
  exact absurd h' (by decide)

theorem and_split {a b : IVec S_ 1} {j : S_.Idx} (h : andi a b j = 1#1) : a j = 1#1 ∧ b j = 1#1 := IntOp.andi_eq_one.1 h

/-- What the precondition says. -/
theorem reals [Facts] (a0 : FVec Ideal S2x2048x1024 .f32) (a1 : FVec Ideal S2x2048x1024 .f32) (a2 : FVec Ideal S3x1024x1024 .f32) (a3 : FVec Ideal S3x1024 .f32) (a4 : FVec Ideal S3x1024 .f32) (a5 : FVec Ideal S3x1024x1024 .f32) (a6 : FVec Ideal S3x1024 .f32) (a7 : FVec Ideal S3x1024 .f32) (a8 : FVec Ideal S3x1024 .f32) (a9 : FVec Ideal S3x1024x1024 .f32) (a10 : FVec Ideal S3x1024 .f32) (a11 : FVec Ideal S3x1024 .f32) (a12 : FVec Ideal S3x1024x1024 .f32) (a13 : FVec Ideal S3x1024 .f32) (a14 : FVec Ideal S3x1024 .f32) (a15 : FVec Ideal S3x1024 .f32) (a16 : FVec Ideal S1024x4 .f32) (a17 : FVec Ideal S4 .f32) (a18 : FVec Ideal S4x1024x1024 .f32) (a19 : FVec Ideal S4x1024 .f32) (h : fn a0 a1 a2 a3 a4 a5 a6 a7 a8 a9 a10 a11 a12 a13 a14 a15 a16 a17 a18 a19 = fun _ => 1#1) :
    (∀ i, Real' (a0 i)) ∧ (∀ i, Real' (a1 i)) ∧ (∀ i, Real' (a4 i)) ∧ (∀ i, Real' (a5 i)) ∧ (∀ i, Real' (a6 i)) ∧ (∀ i, Real' (a7 i)) ∧ (∀ i, Real' (a8 i)) ∧ (∀ i, Real' (a11 i)) ∧ (∀ i, Real' (a12 i)) ∧ (∀ i, Real' (a13 i)) ∧ (∀ i, Real' (a14 i)) ∧ (∀ i, Real' (a15 i)) := by
  have h := congrFun h (fun d => d.elim0)
  simp only [fn, fn_part1, fn_part2, fn_part3] at h
  obtain ⟨h, h15⟩ := and_split h
  obtain ⟨h, h14⟩ := and_split h
  obtain ⟨h, h13⟩ := and_split h
  obtain ⟨h, h12⟩ := and_split h
  obtain ⟨h, h11⟩ := and_split h
  obtain ⟨h, h8⟩ := and_split h
  obtain ⟨h, h7⟩ := and_split h
  obtain ⟨h, h6⟩ := and_split h
  obtain ⟨h, h5⟩ := and_split h
  obtain ⟨h, h4⟩ := and_split h
  obtain ⟨h, h1⟩ := and_split h
  exact ⟨all_real a0 _ _ _ _ h, all_real a1 _ _ _ _ h1, all_real a4 _ _ _ _ h4, all_real a5 _ _ _ _ h5, all_real a6 _ _ _ _ h6, all_real a7 _ _ _ _ h7, all_real a8 _ _ _ _ h8, all_real a11 _ _ _ _ h11, all_real a12 _ _ _ _ h12, all_real a13 _ _ _ _ h13, all_real a14 _ _ _ _ h14, all_real a15 _ _ _ _ h15⟩

end Cert.Pre_finite
end
-- ==== Proof.KerRun.lean ====
/- The kernel's run: its three results are the boundary contents after the last reshapes, and the arguments end
   as launched. The set-up of the launch is the frame's. -/
module
public import proofs.«01_k».proof.Proof.Gen.KernelIdeal.Frame

@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
namespace Cert.KernelIdeal.Value
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run from any memory with zero counters. -/
theorem valueRun : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_v17) = W5 m ρ c (Proc.devRef .tc main_v17)
      ∧ r.2.mem ((c.tc : Thread nD τ).loc main_v18) = W5 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => (fun c =>
      ⟨h c _ (mem_uc main_v16 (by decide)), h c _ (mem_uc main_v17 (by decide)), h c _ (mem_uc main_v18 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c)⟩))

end Cert.KernelIdeal.Value
end
-- ==== Proof.KerRow1.lean ====
/- The target encoder's block (the second region's body) at an index: one row of the block is the three
   layers of that row. -/
module
public import proofs.«01_k».proof.Proof.Gen.KernelIdeal.Frame
public import proofs.«01_k».proof.Proof.RowMath
public import Idealize.ShloMosaic.Lib.Pointwise
public import Idealize.ShloMosaic.Lib.Pipeline.ValueKit

@[expose] public section
set_option maxRecDepth 16384
noncomputable section
open Idealize.ShloMosaic Idealize.ShloMosaic.TcCoe Idealize.SL.Sem
namespace Cert.KernelIdeal.Value
open Cert.KernelIdeal Cert.KernelIdeal.Gen Cert.RowMath

/-- One layer of the block's rows. -/
def klay1 (h : FVec Ideal S512x1024 .f32) (w : Vec Ideal S1x1024x1024 .f32) (b d : Vec Ideal S1x1x1024 .f32) (wo : Vec Ideal S1x1024x1024 .f32) (bo g be : Vec Ideal S1x1x1024 .f32) : FVec Ideal S512x1024 .f32 :=
  k1_pay21 (k1_pay17 h (k1_pay15 h w b) d wo bo) g be

/-- A layer's parameters as the body reads them. -/
def blockLayer (w : Vec Ideal S1x1024x1024 .f32) (b d : Vec Ideal S1x1x1024 .f32) (wo : Vec Ideal S1x1024x1024 .f32) (bo g be : Vec Ideal S1x1x1024 .f32) : Layer :=
  ⟨fun x k => w (ix3 0 x k), fun k => b (ix3 0 0 k), fun k => d (ix3 0 0 k), fun x k => wo (ix3 0 x k), fun k => bo (ix3 0 0 k), fun k => g (ix3 0 0 k), fun k => be (ix3 0 0 k)⟩

theorem knorm1_apply (y : FVec Ideal S512x1024 .f32) (g be : Vec Ideal S1x1x1024 .f32) (i : Fin 512) (j : Fin 1024) :
    k1_pay21 y g be (ix2 i j) = kerNorm (fun k => g (ix3 0 0 k)) (fun k => be (ix3 0 0 k)) (fun k => y (ix2 i k)) j := by
  pointwise [k1_pay21]
  rfl

theorem kpre1_apply (h : FVec Ideal S512x1024 .f32) (w : Vec Ideal S1x1024x1024 .f32) (b d : Vec Ideal S1x1x1024 .f32) (wo : Vec Ideal S1x1024x1024 .f32) (bo g be : Vec Ideal S1x1x1024 .f32) (i : Fin 512) (j : Fin 1024) :
    k1_pay17 h (k1_pay15 h w b) d wo bo (ix2 i j) = kerPre (blockLayer w b d wo bo g be) (fun k => h (ix2 i k)) j := by
  pointwise [k1_pay17, k1_pay15]
  rfl

theorem klay1_apply (h : FVec Ideal S512x1024 .f32) (w : Vec Ideal S1x1024x1024 .f32) (b d : Vec Ideal S1x1x1024 .f32) (wo : Vec Ideal S1x1024x1024 .f32) (bo g be : Vec Ideal S1x1x1024 .f32) (i : Fin 512) (j : Fin 1024) :
    klay1 h w b d wo bo g be (ix2 i j) = kerLayer (blockLayer w b d wo bo g be) (fun k => h (ix2 i k)) j := by
  rw [klay1, knorm1_apply, kerLayer]
  refine congrArg (fun y => kerNorm _ _ y j) (funext fun k => ?_)
  exact kpre1_apply h w b d wo bo g be i k

variable (x0 : Vec Ideal S1024x1024 .f32) (x1 : Vec Ideal S3x1024x1024 .f32) (x2 x3 : Vec Ideal S3x1x1024 .f32) (x4 : Vec Ideal S3x1024x1024 .f32) (x5 x6 x7 : Vec Ideal S3x1x1024 .f32)

/-- The three layers of half the block's rows. -/
def kstack1 (h : FVec Ideal S512x1024 .f32) : FVec Ideal S512x1024 .f32 :=
  klay1 (klay1 (klay1 h (View.ld x1 r1_2) (View.ld x2 r1_3) (View.ld x3 r1_3) (View.ld x4 r1_2) (View.ld x5 r1_3) (View.ld x6 r1_3) (View.ld x7 r1_3))
    (View.ld x1 r1_4) (View.ld x2 r1_5) (View.ld x3 r1_5) (View.ld x4 r1_4) (View.ld x5 r1_5) (View.ld x6 r1_5) (View.ld x7 r1_5))
    (View.ld x1 r1_6) (View.ld x2 r1_7) (View.ld x3 r1_7) (View.ld x4 r1_6) (View.ld x5 r1_7) (View.ld x6 r1_7) (View.ld x7 r1_7)

/-- The layers of the block's parameter windows. -/
def blockLayers : Fin 3 → Layer :=
  layerOf (fun n i k => x1 (ix3 n i k)) (fun n k => x2 (ix3 n 0 k)) (fun n k => x3 (ix3 n 0 k)) (fun n i k => x4 (ix3 n i k)) (fun n k => x5 (ix3 n 0 k)) (fun n k => x6 (ix3 n 0 k)) (fun n k => x7 (ix3 n 0 k))

theorem bl0 : blockLayer (View.ld x1 r1_2) (View.ld x2 r1_3) (View.ld x3 r1_3) (View.ld x4 r1_2) (View.ld x5 r1_3) (View.ld x6 r1_3) (View.ld x7 r1_3) = blockLayers x1 x2 x3 x4 x5 x6 x7 0 := by
  simp only [blockLayer, blockLayers, layerOf]
  congr 1 <;> funext <;> pointwise
theorem bl1 : blockLayer (View.ld x1 r1_4) (View.ld x2 r1_5) (View.ld x3 r1_5) (View.ld x4 r1_4) (View.ld x5 r1_5) (View.ld x6 r1_5) (View.ld x7 r1_5) = blockLayers x1 x2 x3 x4 x5 x6 x7 1 := by
  simp only [blockLayer, blockLayers, layerOf]
  congr 1 <;> funext <;> pointwise
theorem bl2 : blockLayer (View.ld x1 r1_6) (View.ld x2 r1_7) (View.ld x3 r1_7) (View.ld x4 r1_6) (View.ld x5 r1_7) (View.ld x6 r1_7) (View.ld x7 r1_7) = blockLayers x1 x2 x3 x4 x5 x6 x7 2 := by
  simp only [blockLayer, blockLayers, layerOf]
  congr 1 <;> funext <;> pointwise

theorem kstack1_apply (h : FVec Ideal S512x1024 .f32) (i : Fin 512) (j : Fin 1024) :
    kstack1 x1 x2 x3 x4 x5 x6 x7 h (ix2 i j) = kerStack (blockLayers x1 x2 x3 x4 x5 x6 x7) (fun k => h (ix2 i k)) j := by
  simp only [kstack1, klay1_apply, bl0, bl1, bl2]
  rfl

theorem pay34_eq : k1_pay34 x0 x1 x2 x3 x4 x5 x6 x7 = klay1 (k1_pay4 (View.ld x0 r1_1)) (View.ld x1 r1_2) (View.ld x2 r1_3) (View.ld x3 r1_3) (View.ld x4 r1_2) (View.ld x5 r1_3) (View.ld x6 r1_3) (View.ld x7 r1_3) := rfl
theorem pay40_eq : k1_pay40 x0 x1 x2 x3 x4 x5 x6 x7 = klay1 (k1_pay34 x0 x1 x2 x3 x4 x5 x6 x7) (View.ld x1 r1_4) (View.ld x2 r1_5) (View.ld x3 r1_5) (View.ld x4 r1_4) (View.ld x5 r1_5) (View.ld x6 r1_5) (View.ld x7 r1_5) := rfl
theorem half2 : k1_pay2 (k1_pay26 (k1_pay40 x0 x1 x2 x3 x4 x5 x6 x7) (k1_pay23 (k1_pay40 x0 x1 x2 x3 x4 x5 x6 x7) (View.ld x1 r1_6) (View.ld x2 r1_7) (View.ld x3 r1_7)) (View.ld x4 r1_6) (View.ld x5 r1_7)) (View.ld x6 r1_7) (View.ld x7 r1_7)
    = klay1 (k1_pay40 x0 x1 x2 x3 x4 x5 x6 x7) (View.ld x1 r1_6) (View.ld x2 r1_7) (View.ld x3 r1_7) (View.ld x4 r1_6) (View.ld x5 r1_7) (View.ld x6 r1_7) (View.ld x7 r1_7) := rfl
theorem pay33_eq : k1_pay33 x0 x1 x2 x3 x4 x5 x6 x7 = klay1 (k1_pay3 (View.ld x0 r1_0)) (View.ld x1 r1_2) (View.ld x2 r1_3) (View.ld x3 r1_3) (View.ld x4 r1_2) (View.ld x5 r1_3) (View.ld x6 r1_3) (View.ld x7 r1_3) := rfl
theorem pay39_eq : k1_pay39 x0 x1 x2 x3 x4 x5 x6 x7 = klay1 (k1_pay33 x0 x1 x2 x3 x4 x5 x6 x7) (View.ld x1 r1_4) (View.ld x2 r1_5) (View.ld x3 r1_5) (View.ld x4 r1_4) (View.ld x5 r1_5) (View.ld x6 r1_5) (View.ld x7 r1_5) := rfl
theorem half1 : k1_pay1 (k1_pay29 (k1_pay39 x0 x1 x2 x3 x4 x5 x6 x7) (k1_pay41 x0 x1 x2 x3 x4 x5 x6 x7) (View.ld x5 r1_7) (View.ld x6 r1_7)) (k1_pay30 (k1_pay39 x0 x1 x2 x3 x4 x5 x6 x7) (k1_pay41 x0 x1 x2 x3 x4 x5 x6 x7) (View.ld x5 r1_7) (View.ld x6 r1_7) (View.ld x7 r1_7))
    = klay1 (k1_pay39 x0 x1 x2 x3 x4 x5 x6 x7) (View.ld x1 r1_6) (View.ld x2 r1_7) (View.ld x3 r1_7) (View.ld x4 r1_6) (View.ld x5 r1_7) (View.ld x6 r1_7) (View.ld x7 r1_7) := rfl

theorem hi1_apply (a : Fin 512) (k : Fin 1024) : k1_pay4 (View.ld x0 r1_1) (ix2 a k) = x0 (ix2 ⟨512 + a, by omega⟩ k) := by
  pointwise [k1_pay4]; try blk_ext
theorem lo1_apply (a : Fin 512) (k : Fin 1024) : k1_pay3 (View.ld x0 r1_0) (ix2 a k) = x0 (ix2 ⟨a, by omega⟩ k) := by
  pointwise [k1_pay3]; try blk_ext

/-- The body's two stores are the two halves' three layers. -/
theorem out1_eq : out1_8 x0 x1 x2 x3 x4 x5 x6 x7 = View.canon [⟨r1_1, kstack1 x1 x2 x3 x4 x5 x6 x7 (k1_pay4 (View.ld x0 r1_1))⟩, ⟨r1_0, kstack1 x1 x2 x3 x4 x5 x6 x7 (k1_pay3 (View.ld x0 r1_0))⟩] := by
  rw [out1_8, half2, half1, pay40_eq, pay39_eq, pay34_eq, pay33_eq, kstack1, kstack1]

/-- The block after the body: each row is the three layers of the input block's row. -/
theorem out1_apply (i : Fin 1024) (j : Fin 1024) : out1_8 x0 x1 x2 x3 x4 x5 x6 x7 (ix2 i j) = kerStack (blockLayers x1 x2 x3 x4 x5 x6 x7) (fun k => x0 (ix2 i k)) j := by
  rw [out1_eq]
  canon_tiles x h
  all_goals
    obtain ⟨a, c, rfl⟩ : ∃ (a : Fin 512) (c : Fin 1024), x = ix2 a c := ⟨x 0, x 1, ValueIdx.eq_ix2 x⟩
    obtain rfl : j = c := Fin.ext h1
    rw [kstack1_apply]
    refine congrArg (fun f => kerStack _ f j) (funext fun k => ?_)
  · rw [hi1_apply]; exact congrArg (fun r => x0 (ix2 r k)) (Fin.ext h0.symm)
  · rw [lo1_apply]; exact congrArg (fun r => x0 (ix2 r k)) (Fin.ext h0.symm)

end Cert.KernelIdeal.Value
end
-- ==== Proof.KerRow0.lean ====
/- The context encoder's block (the first region's body) at an index: the softmax over the experts of a row's
   three layers, and the experts' outputs weighted by it. -/
module
public import proofs.«01_k».proof.Proof.KerRow1

@[expose] public section
set_option maxRecDepth 16384
noncomputable section
open Idealize.ShloMosaic Idealize.ShloMosaic.TcCoe Idealize.SL.Sem
namespace Cert.KernelIdeal.Value
open Cert.KernelIdeal Cert.KernelIdeal.Gen Cert.RowMath

/-- One layer of the block's rows. -/
def klay0 (h : FVec Ideal S256x1024 .f32) (w : Vec Ideal S1x1024x1024 .f32) (b d : Vec Ideal S1x1x1024 .f32) (wo : Vec Ideal S1x1024x1024 .f32) (bo g be : Vec Ideal S1x1x1024 .f32) : FVec Ideal S256x1024 .f32 :=
  k0_pay20 (k0_pay16 h (k0_pay14 h w b) d wo bo) g be

theorem knorm0_apply (y : FVec Ideal S256x1024 .f32) (g be : Vec Ideal S1x1x1024 .f32) (i : Fin 256) (j : Fin 1024) :
    k0_pay20 y g be (ix2 i j) = kerNorm (fun k => g (ix3 0 0 k)) (fun k => be (ix3 0 0 k)) (fun k => y (ix2 i k)) j := by
  pointwise [k0_pay20]
  rfl

theorem kpre0_apply (h : FVec Ideal S256x1024 .f32) (w : Vec Ideal S1x1024x1024 .f32) (b d : Vec Ideal S1x1x1024 .f32) (wo : Vec Ideal S1x1024x1024 .f32) (bo g be : Vec Ideal S1x1x1024 .f32) (i : Fin 256) (j : Fin 1024) :
    k0_pay16 h (k0_pay14 h w b) d wo bo (ix2 i j) = kerPre (blockLayer w b d wo bo g be) (fun k => h (ix2 i k)) j := by
  pointwise [k0_pay16, k0_pay14]
  rfl

theorem klay0_apply (h : FVec Ideal S256x1024 .f32) (w : Vec Ideal S1x1024x1024 .f32) (b d : Vec Ideal S1x1x1024 .f32) (wo : Vec Ideal S1x1024x1024 .f32) (bo g be : Vec Ideal S1x1x1024 .f32) (i : Fin 256) (j : Fin 1024) :
    klay0 h w b d wo bo g be (ix2 i j) = kerLayer (blockLayer w b d wo bo g be) (fun k => h (ix2 i k)) j := by
  rw [klay0, knorm0_apply, kerLayer]
  refine congrArg (fun y => kerNorm _ _ y j) (funext fun k => ?_)
  exact kpre0_apply h w b d wo bo g be i k

/-- The gate's probabilities of the block's rows. -/
def kprobs (z : FVec Ideal S256x1024 .f32) (wg : Vec Ideal S1024x4 .f32) (bg : Vec Ideal S1x4 .f32) : FVec Ideal S256x4 .f32 := k0_pay37 z wg bg

theorem kprobs_apply (z : FVec Ideal S256x1024 .f32) (wg : Vec Ideal S1024x4 .f32) (bg : Vec Ideal S1x4 .f32) (i : Fin 256) (e : Fin 4) :
    kprobs z wg bg (ix2 i e) = soft (logit (fun x e => wg (ix2 x e)) (fun e => bg (ix2 0 e)) fun k => z (ix2 i k)) e := by
  pointwise [kprobs, k0_pay37]
  rfl

/-- The experts' outputs of the block's rows, weighted. -/
def kmix (z : FVec Ideal S256x1024 .f32) (p : FVec Ideal S256x4 .f32) (w0 : Vec Ideal S1x1024x1024 .f32) (b0 : Vec Ideal S1x1x1024 .f32) (w1 : Vec Ideal S1x1024x1024 .f32) (b1 : Vec Ideal S1x1x1024 .f32)
    (w2 : Vec Ideal S1x1024x1024 .f32) (b2 : Vec Ideal S1x1x1024 .f32) (w3 : Vec Ideal S1x1024x1024 .f32) (b3 : Vec Ideal S1x1x1024 .f32) : FVec Ideal S256x1024 .f32 :=
  k0_pay1 z p (k0_pay38 z p (Scalar.ofBits .f32 0x00000000#32) w0 b0 w1 b1) (k0_pay39 z p w2 b2) w3 b3

theorem kmix_apply (z : FVec Ideal S256x1024 .f32) (p : FVec Ideal S256x4 .f32) (w0 : Vec Ideal S1x1024x1024 .f32) (b0 : Vec Ideal S1x1x1024 .f32) (w1 : Vec Ideal S1x1024x1024 .f32) (b1 : Vec Ideal S1x1x1024 .f32)
    (w2 : Vec Ideal S1x1024x1024 .f32) (b2 : Vec Ideal S1x1x1024 .f32) (w3 : Vec Ideal S1x1024x1024 .f32) (b3 : Vec Ideal S1x1x1024 .f32) (i : Fin 256) (j : Fin 1024) :
    kmix z p w0 b0 w1 b1 w2 b2 w3 b3 (ix2 i j) = p (ix2 i 0) * (∑ x, z (ix2 i x) * w0 (ix3 0 x j) + b0 (ix3 0 0 j)) + p (ix2 i 1) * (∑ x, z (ix2 i x) * w1 (ix3 0 x j) + b1 (ix3 0 0 j))
      + p (ix2 i 2) * (∑ x, z (ix2 i x) * w2 (ix3 0 x j) + b2 (ix3 0 0 j)) + p (ix2 i 3) * (∑ x, z (ix2 i x) * w3 (ix3 0 x j) + b3 (ix3 0 0 j)) := by
  pointwise [kmix, k0_pay1, k0_pay38, k0_pay39]

variable (x0 : Vec Ideal S512x1024 .f32) (x1 : Vec Ideal S3x1024x1024 .f32) (x2 x3 : Vec Ideal S3x1x1024 .f32) (x4 : Vec Ideal S3x1024x1024 .f32) (x5 x6 x7 : Vec Ideal S3x1x1024 .f32)
  (x8 : Vec Ideal S1024x4 .f32) (x9 : Vec Ideal S1x4 .f32) (x10 : Vec Ideal S4x1024x1024 .f32) (x11 : Vec Ideal S4x1x1024 .f32)

/-- The three layers of half the block's rows. -/
def kstack0 (h : FVec Ideal S256x1024 .f32) : FVec Ideal S256x1024 .f32 :=
  klay0 (klay0 (klay0 h (View.ld x1 r0_2) (View.ld x2 r0_3) (View.ld x3 r0_3) (View.ld x4 r0_2) (View.ld x5 r0_3) (View.ld x6 r0_3) (View.ld x7 r0_3)) (View.ld x1 r0_4) (View.ld x2 r0_5) (View.ld x3 r0_5) (View.ld x4 r0_4) (View.ld x5 r0_5) (View.ld x6 r0_5) (View.ld x7 r0_5)) (View.ld x1 r0_6) (View.ld x2 r0_7) (View.ld x3 r0_7) (View.ld x4 r0_6) (View.ld x5 r0_7) (View.ld x6 r0_7) (View.ld x7 r0_7)

theorem cl0 : blockLayer (View.ld x1 r0_2) (View.ld x2 r0_3) (View.ld x3 r0_3) (View.ld x4 r0_2) (View.ld x5 r0_3) (View.ld x6 r0_3) (View.ld x7 r0_3) = blockLayers x1 x2 x3 x4 x5 x6 x7 0 := by
  simp only [blockLayer, blockLayers, layerOf]
  congr 1 <;> funext <;> pointwise
theorem cl1 : blockLayer (View.ld x1 r0_4) (View.ld x2 r0_5) (View.ld x3 r0_5) (View.ld x4 r0_4) (View.ld x5 r0_5) (View.ld x6 r0_5) (View.ld x7 r0_5) = blockLayers x1 x2 x3 x4 x5 x6 x7 1 := by
  simp only [blockLayer, blockLayers, layerOf]
  congr 1 <;> funext <;> pointwise
theorem cl2 : blockLayer (View.ld x1 r0_6) (View.ld x2 r0_7) (View.ld x3 r0_7) (View.ld x4 r0_6) (View.ld x5 r0_7) (View.ld x6 r0_7) (View.ld x7 r0_7) = blockLayers x1 x2 x3 x4 x5 x6 x7 2 := by
  simp only [blockLayer, blockLayers, layerOf]
  congr 1 <;> funext <;> pointwise

theorem kstack0_apply (h : FVec Ideal S256x1024 .f32) (i : Fin 256) (j : Fin 1024) :
    kstack0 x1 x2 x3 x4 x5 x6 x7 h (ix2 i j) = kerStack (blockLayers x1 x2 x3 x4 x5 x6 x7) (fun k => h (ix2 i k)) j := by
  simp only [kstack0, klay0_apply, cl0, cl1, cl2]
  rfl

theorem pay43_eq : k0_pay43 x0 x1 x2 x3 x4 x5 x6 x7 x8 x9 x10 x11 = klay0 (k0_pay3 (View.ld x0 r0_1)) (View.ld x1 r0_2) (View.ld x2 r0_3) (View.ld x3 r0_3) (View.ld x4 r0_2) (View.ld x5 r0_3) (View.ld x6 r0_3) (View.ld x7 r0_3) := rfl
theorem pay49_eq : k0_pay49 x0 x1 x2 x3 x4 x5 x6 x7 x8 x9 x10 x11 = klay0 (k0_pay43 x0 x1 x2 x3 x4 x5 x6 x7 x8 x9 x10 x11) (View.ld x1 r0_4) (View.ld x2 r0_5) (View.ld x3 r0_5) (View.ld x4 r0_4) (View.ld x5 r0_5) (View.ld x6 r0_5) (View.ld x7 r0_5) := rfl
theorem pay54_eq : k0_pay54 x0 x1 x2 x3 x4 x5 x6 x7 x8 x9 x10 x11 = klay0 (k0_pay49 x0 x1 x2 x3 x4 x5 x6 x7 x8 x9 x10 x11) (View.ld x1 r0_6) (View.ld x2 r0_7) (View.ld x3 r0_7) (View.ld x4 r0_6) (View.ld x5 r0_7) (View.ld x6 r0_7) (View.ld x7 r0_7) := rfl
theorem pay42_eq : k0_pay42 x0 x1 x2 x3 x4 x5 x6 x7 x8 x9 x10 x11 = klay0 (k0_pay2 (View.ld x0 r0_0)) (View.ld x1 r0_2) (View.ld x2 r0_3) (View.ld x3 r0_3) (View.ld x4 r0_2) (View.ld x5 r0_3) (View.ld x6 r0_3) (View.ld x7 r0_3) := rfl
theorem pay48_eq : k0_pay48 x0 x1 x2 x3 x4 x5 x6 x7 x8 x9 x10 x11 = klay0 (k0_pay42 x0 x1 x2 x3 x4 x5 x6 x7 x8 x9 x10 x11) (View.ld x1 r0_4) (View.ld x2 r0_5) (View.ld x3 r0_5) (View.ld x4 r0_4) (View.ld x5 r0_5) (View.ld x6 r0_5) (View.ld x7 r0_5) := rfl
theorem pay53_eq : k0_pay53 x0 x1 x2 x3 x4 x5 x6 x7 x8 x9 x10 x11 = klay0 (k0_pay48 x0 x1 x2 x3 x4 x5 x6 x7 x8 x9 x10 x11) (View.ld x1 r0_6) (View.ld x2 r0_7) (View.ld x3 r0_7) (View.ld x4 r0_6) (View.ld x5 r0_7) (View.ld x6 r0_7) (View.ld x7 r0_7) := rfl

/-- The first half's encoded rows. -/
theorem z1_eq : k0_pay53 x0 x1 x2 x3 x4 x5 x6 x7 x8 x9 x10 x11 = kstack0 x1 x2 x3 x4 x5 x6 x7 (k0_pay2 (View.ld x0 r0_0)) := by
  rw [pay53_eq, pay48_eq, pay42_eq, kstack0]
/-- The second half's encoded rows. -/
theorem z2_eq : k0_pay54 x0 x1 x2 x3 x4 x5 x6 x7 x8 x9 x10 x11 = kstack0 x1 x2 x3 x4 x5 x6 x7 (k0_pay3 (View.ld x0 r0_1)) := by
  rw [pay54_eq, pay49_eq, pay43_eq, kstack0]
theorem p1_eq : k0_pay56 x0 x1 x2 x3 x4 x5 x6 x7 x8 x9 x10 x11 = kprobs (k0_pay53 x0 x1 x2 x3 x4 x5 x6 x7 x8 x9 x10 x11) (View.ld x8 r0_8) (View.ld x9 r0_9) := rfl
theorem p2_eq : k0_pay57 x0 x1 x2 x3 x4 x5 x6 x7 x8 x9 x10 x11 = kprobs (k0_pay54 x0 x1 x2 x3 x4 x5 x6 x7 x8 x9 x10 x11) (View.ld x8 r0_8) (View.ld x9 r0_9) := rfl
theorem m1_eq : k0_pay36 (k0_pay53 x0 x1 x2 x3 x4 x5 x6 x7 x8 x9 x10 x11) (k0_pay56 x0 x1 x2 x3 x4 x5 x6 x7 x8 x9 x10 x11) (k0_pay34 (k0_pay53 x0 x1 x2 x3 x4 x5 x6 x7 x8 x9 x10 x11) (k0_pay55 x0 x1 x2 x3 x4 x5 x6 x7 x8 x9 x10 x11) (View.ld x10 r0_10) (View.ld x11 r0_11) (View.ld x10 r0_12) (View.ld x11 r0_13)) (k0_pay35 (k0_pay53 x0 x1 x2 x3 x4 x5 x6 x7 x8 x9 x10 x11) (View.ld x10 r0_14) (View.ld x11 r0_15)) (View.ld x10 r0_16) (View.ld x11 r0_17)
    = kmix (k0_pay53 x0 x1 x2 x3 x4 x5 x6 x7 x8 x9 x10 x11) (k0_pay56 x0 x1 x2 x3 x4 x5 x6 x7 x8 x9 x10 x11) (View.ld x10 r0_10) (View.ld x11 r0_11) (View.ld x10 r0_12) (View.ld x11 r0_13) (View.ld x10 r0_14) (View.ld x11 r0_15) (View.ld x10 r0_16) (View.ld x11 r0_17) := rfl

theorem hi0_apply (a : Fin 256) (k : Fin 1024) : k0_pay3 (View.ld x0 r0_1) (ix2 a k) = x0 (ix2 ⟨256 + a, by omega⟩ k) := by
  pointwise [k0_pay3]; try blk_ext
theorem lo0_apply (a : Fin 256) (k : Fin 1024) : k0_pay2 (View.ld x0 r0_0) (ix2 a k) = x0 (ix2 ⟨a, by omega⟩ k) := by
  pointwise [k0_pay2]; try blk_ext

/-- A row's probabilities from its three layers. -/
def blockProbs (z : Fin 1024 → EReal) : Fin 4 → EReal := soft (logit (fun x e => x8 (ix2 x e)) (fun e => x9 (ix2 0 e)) z)
/-- A row's weighted experts from its three layers. -/
def blockMix (z : Fin 1024 → EReal) : Fin 1024 → EReal := mix (blockProbs x8 x9 z) (fun e i k => x10 (ix3 e i k)) (fun e k => x11 (ix3 e 0 k)) z

theorem probs_row (h : FVec Ideal S256x1024 .f32) (i : Fin 256) (e : Fin 4) :
    kprobs (kstack0 x1 x2 x3 x4 x5 x6 x7 h) (View.ld x8 r0_8) (View.ld x9 r0_9) (ix2 i e) = blockProbs x8 x9 (kerStack (blockLayers x1 x2 x3 x4 x5 x6 x7) (fun k => h (ix2 i k))) e := by
  rw [kprobs_apply, blockProbs]
  simp only [kstack0_apply]
  congr 2 <;> funext <;> pointwise

theorem mix_row (h : FVec Ideal S256x1024 .f32) (i : Fin 256) (j : Fin 1024) :
    kmix (kstack0 x1 x2 x3 x4 x5 x6 x7 h) (kprobs (kstack0 x1 x2 x3 x4 x5 x6 x7 h) (View.ld x8 r0_8) (View.ld x9 r0_9)) (View.ld x10 r0_10) (View.ld x11 r0_11) (View.ld x10 r0_12) (View.ld x11 r0_13) (View.ld x10 r0_14) (View.ld x11 r0_15) (View.ld x10 r0_16) (View.ld x11 r0_17) (ix2 i j)
      = blockMix x8 x9 x10 x11 (kerStack (blockLayers x1 x2 x3 x4 x5 x6 x7) (fun k => h (ix2 i k))) j := by
  rw [kmix_apply]
  simp only [probs_row, kstack0_apply]
  pointwise
  rfl

/-- The probabilities' block after the body. -/
theorem out13_apply (i : Fin 512) (e : Fin 4) : out0_13 x0 x1 x2 x3 x4 x5 x6 x7 x8 x9 x10 x11 (ix2 i e) = blockProbs x8 x9 (kerStack (blockLayers x1 x2 x3 x4 x5 x6 x7) (fun k => x0 (ix2 i k))) e := by
  rw [out0_13, p1_eq, p2_eq, z1_eq, z2_eq]
  canon_tiles x h
  all_goals
    obtain ⟨a, c, rfl⟩ : ∃ (a : Fin 256) (c : Fin 4), x = ix2 a c := ⟨x 0, x 1, ValueIdx.eq_ix2 x⟩
    obtain rfl : e = c := Fin.ext h1
    rw [probs_row]
    refine congrArg (fun f => blockProbs x8 x9 (kerStack _ f) e) (funext fun k => ?_)
  · rw [hi0_apply]; exact congrArg (fun r => x0 (ix2 r k)) (Fin.ext h0.symm)
  · rw [lo0_apply]; exact congrArg (fun r => x0 (ix2 r k)) (Fin.ext h0.symm)

/-- The weighted experts' block after the body. -/
theorem out12_apply (i : Fin 512) (j : Fin 1024) : out0_12 x0 x1 x2 x3 x4 x5 x6 x7 x8 x9 x10 x11 (ix2 i j) = blockMix x8 x9 x10 x11 (kerStack (blockLayers x1 x2 x3 x4 x5 x6 x7) (fun k => x0 (ix2 i k))) j := by
  rw [out0_12, m1_eq, p1_eq, p2_eq, z1_eq, z2_eq]
  simp only [← kmix.eq_1]
  canon_tiles x h
  all_goals
    obtain ⟨a, c, rfl⟩ : ∃ (a : Fin 256) (c : Fin 1024), x = ix2 a c := ⟨x 0, x 1, ValueIdx.eq_ix2 x⟩
    obtain rfl : j = c := Fin.ext h1
    rw [mix_row]
    refine congrArg (fun f => blockMix x8 x9 x10 x11 (kerStack _ f) j) (funext fun k => ?_)
  · rw [hi0_apply]; exact congrArg (fun r => x0 (ix2 r k)) (Fin.ext h0.symm)
  · rw [lo0_apply]; exact congrArg (fun r => x0 (ix2 r k)) (Fin.ext h0.symm)

end Cert.KernelIdeal.Value
end
-- ==== Proof.KerArr0.lean ====
/- The first region's two result arrays: every row's probabilities and weighted experts, from the three layers
   of the launched row. -/
module
public import proofs.«01_k».proof.Proof.KerRow0

@[expose] public section
set_option maxRecDepth 16384
noncomputable section
open Idealize.ShloMosaic Idealize.ShloMosaic.TcCoe Idealize.SL.Sem
namespace Cert.KernelIdeal.Value
open Cert.KernelIdeal Cert.KernelIdeal.Gen Cert.RowMath

/-- Every row's probabilities. -/
def probRows (x : Vec Ideal S4096x1024 .f32) (L : Fin 3 → Layer) (wg : Vec Ideal S1024x4 .f32) (bg : Vec Ideal S1x4 .f32) : Vec Ideal S4096x4 .f32 :=
  fun i => blockProbs wg bg (kerStack L (fun k => x (ix2 (i 0) k))) (i 1)
/-- Every row's weighted experts. -/
def mixRows (x : Vec Ideal S4096x1024 .f32) (L : Fin 3 → Layer) (wg : Vec Ideal S1024x4 .f32) (bg : Vec Ideal S1x4 .f32) (we : Vec Ideal S4x1024x1024 .f32) (be : Vec Ideal S4x1x1024 .f32) : Vec Ideal S4096x1024 .f32 :=
  fun i => blockMix wg bg we be (kerStack L (fun k => x (ix2 (i 0) k))) (i 1)

variable (V : (c : Dev nD) → (b : Ref sig .tc) → Buf (Elt Ideal) ((c : Thread nD τ).loc b))

theorem idx0 : ∀ t : Fin cfg0.N, win0_0.index t = ![t.val, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] ∧ win0_8.index t = ![0, 0] ∧ win0_9.index t = ![0, 0] ∧ win0_10.index t = ![0, 0, 0] ∧ win0_11.index t = ![0, 0, 0] ∧ win0_12.index t = ![t.val, 0] ∧ win0_13.index t = ![t.val, 0] ∧ t.val < 8 :=
  (by decide +kernel : ∀ t : Fin grid0.N, _)
theorem lt0 (t : Fin cfg0.N) : t.val < 8 := (idx0 t).2.2.2.2.2.2.2.2.2.2.2.2.2.2

theorem blk0_1 (c : Dev nD) (t : Fin cfg0.N) : iblk0 V c 1 t = V c main_arg2 := by blk_ext! [iblk0, idx0 t]
theorem blk0_2 (c : Dev nD) (t : Fin cfg0.N) : iblk0 V c 2 t = V c main_v2 := by blk_ext! [iblk0, idx0 t]
theorem blk0_3 (c : Dev nD) (t : Fin cfg0.N) : iblk0 V c 3 t = V c main_v3 := by blk_ext! [iblk0, idx0 t]
theorem blk0_4 (c : Dev nD) (t : Fin cfg0.N) : iblk0 V c 4 t = V c main_arg5 := by blk_ext! [iblk0, idx0 t]
theorem blk0_5 (c : Dev nD) (t : Fin cfg0.N) : iblk0 V c 5 t = V c main_v4 := by blk_ext! [iblk0, idx0 t]
theorem blk0_6 (c : Dev nD) (t : Fin cfg0.N) : iblk0 V c 6 t = V c main_v5 := by blk_ext! [iblk0, idx0 t]
theorem blk0_7 (c : Dev nD) (t : Fin cfg0.N) : iblk0 V c 7 t = V c main_v6 := by blk_ext! [iblk0, idx0 t]
theorem blk0_8 (c : Dev nD) (t : Fin cfg0.N) : iblk0 V c 8 t = V c main_arg16 := by blk_ext! [iblk0, idx0 t]
theorem blk0_9 (c : Dev nD) (t : Fin cfg0.N) : iblk0 V c 9 t = V c main_v7 := by blk_ext! [iblk0, idx0 t]
theorem blk0_10 (c : Dev nD) (t : Fin cfg0.N) : iblk0 V c 10 t = V c main_arg18 := by blk_ext! [iblk0, idx0 t]
theorem blk0_11 (c : Dev nD) (t : Fin cfg0.N) : iblk0 V c 11 t = V c main_v8 := by blk_ext! [iblk0, idx0 t]

theorem row0 (c : Dev nD) (t : Fin cfg0.N) (a : Fin 512) (k : Fin 1024) (h : t.val * 512 + a.val < 4096) : iblk0 V c 0 t (ix2 a k) = V c main_v0 (ix2 ⟨t.val * 512 + a.val, h⟩ k) := by
  blk_ext [iblk0, idx0 t]

theorem final12 (c : Dev nD) : (dat0 V c).arrAt 12 cfg0.N = mixRows (V c main_v0) (blockLayers (V c main_arg2) (V c main_v2) (V c main_v3) (V c main_arg5) (V c main_v4) (V c main_v5) (V c main_v6)) (V c main_arg16) (V c main_v7) (V c main_arg18) (V c main_v8) := by
  refine (dat0 V c).arrAt_eq_of_covers 12 _ (by decide +kernel) fun t _ y => ?_
  blk_simp
  rw [after0_12, blk0_1, blk0_2, blk0_3, blk0_4, blk0_5, blk0_6, blk0_7, blk0_8, blk0_9, blk0_10, blk0_11]
  obtain ⟨a, b, rfl⟩ : ∃ (a : Fin 512) (b : Fin 1024), y = ix2 a b := ⟨y 0, y 1, ValueIdx.eq_ix2 y⟩
  have ht := lt0 t
  have hr : t.val * 512 + a.val < 4096 := by omega
  have e : (win0_12.blk t).view.emb (ix2 a b) = (ix2 ⟨t.val * 512 + a.val, hr⟩ b : S4096x1024.Idx) := by blk_ext [idx0 t]
  refine (out12_apply _ _ _ _ _ _ _ _ _ _ _ _ a b).trans ((congrArg (fun f => blockMix _ _ _ _ (kerStack _ f) b) (funext fun k => row0 V c t a k hr)).trans ?_)
  exact (congrArg (mixRows (V c main_v0) _ _ _ _ _) e).symm

theorem final13 (c : Dev nD) : (dat0 V c).arrAt 13 cfg0.N = probRows (V c main_v0) (blockLayers (V c main_arg2) (V c main_v2) (V c main_v3) (V c main_arg5) (V c main_v4) (V c main_v5) (V c main_v6)) (V c main_arg16) (V c main_v7) := by
  refine (dat0 V c).arrAt_eq_of_covers 13 _ (by decide +kernel) fun t _ y => ?_
  blk_simp
  rw [after0_13, blk0_1, blk0_2, blk0_3, blk0_4, blk0_5, blk0_6, blk0_7, blk0_8, blk0_9, blk0_10, blk0_11]
  obtain ⟨a, b, rfl⟩ : ∃ (a : Fin 512) (b : Fin 4), y = ix2 a b := ⟨y 0, y 1, ValueIdx.eq_ix2 y⟩
  have ht := lt0 t
  have hr : t.val * 512 + a.val < 4096 := by omega
  have e : (win0_13.blk t).view.emb (ix2 a b) = (ix2 ⟨t.val * 512 + a.val, hr⟩ b : S4096x4.Idx) := by blk_ext [idx0 t]
  refine (out13_apply _ _ _ _ _ _ _ _ _ _ _ _ a b).trans ((congrArg (fun f => blockProbs _ _ (kerStack _ f) b) (funext fun k => row0 V c t a k hr)).trans ?_)
  exact (congrArg (probRows (V c main_v0) _ _ _) e).symm

end Cert.KernelIdeal.Value
end
-- ==== Proof.KerArr1.lean ====
/- The second region's result array: every row is the three layers of the launched row. -/
module
public import proofs.«01_k».proof.Proof.KerRow1

@[expose] public section
set_option maxRecDepth 16384
noncomputable section
open Idealize.ShloMosaic Idealize.ShloMosaic.TcCoe Idealize.SL.Sem
namespace Cert.KernelIdeal.Value
open Cert.KernelIdeal Cert.KernelIdeal.Gen Cert.RowMath

/-- Every row through the three layers. -/
def stackRows (x : Vec Ideal S4096x1024 .f32) (L : Fin 3 → Layer) : Vec Ideal S4096x1024 .f32 := fun i => kerStack L (fun k => x (ix2 (i 0) k)) (i 1)

variable (V : (c : Dev nD) → (b : Ref sig .tc) → Buf (Elt Ideal) ((c : Thread nD τ).loc b))

theorem idx1 : ∀ t : Fin cfg1.N, win1_0.index t = ![t.val, 0] ∧ win1_1.index t = ![0, 0, 0] ∧ win1_2.index t = ![0, 0, 0] ∧ win1_3.index t = ![0, 0, 0]
    ∧ win1_4.index t = ![0, 0, 0] ∧ win1_5.index t = ![0, 0, 0] ∧ win1_6.index t = ![0, 0, 0] ∧ win1_7.index t = ![0, 0, 0] ∧ win1_8.index t = ![t.val, 0] ∧ t.val < 4 :=
  (by decide +kernel : ∀ t : Fin grid1.N, _)

theorem blk1_1 (c : Dev nD) (t : Fin cfg1.N) : iblk1 V c 1 t = V c main_arg9 := by blk_ext! [iblk1, idx1 t]
theorem blk1_2 (c : Dev nD) (t : Fin cfg1.N) : iblk1 V c 2 t = V c main_v10 := by blk_ext! [iblk1, idx1 t]
theorem blk1_3 (c : Dev nD) (t : Fin cfg1.N) : iblk1 V c 3 t = V c main_v11 := by blk_ext! [iblk1, idx1 t]
theorem blk1_4 (c : Dev nD) (t : Fin cfg1.N) : iblk1 V c 4 t = V c main_arg12 := by blk_ext! [iblk1, idx1 t]
theorem blk1_5 (c : Dev nD) (t : Fin cfg1.N) : iblk1 V c 5 t = V c main_v12 := by blk_ext! [iblk1, idx1 t]
theorem blk1_6 (c : Dev nD) (t : Fin cfg1.N) : iblk1 V c 6 t = V c main_v13 := by blk_ext! [iblk1, idx1 t]
theorem blk1_7 (c : Dev nD) (t : Fin cfg1.N) : iblk1 V c 7 t = V c main_v14 := by blk_ext! [iblk1, idx1 t]

theorem row1 (c : Dev nD) (t : Fin cfg1.N) (a : Fin 1024) (k : Fin 1024) (h : t.val * 1024 + a.val < 4096) : iblk1 V c 0 t (ix2 a k) = V c main_v1 (ix2 ⟨t.val * 1024 + a.val, h⟩ k) := by
  blk_ext [iblk1, idx1 t]

theorem final1 (c : Dev nD) : (dat1 V c).arrAt 8 cfg1.N = stackRows (V c main_v1) (blockLayers (V c main_arg9) (V c main_v10) (V c main_v11) (V c main_arg12) (V c main_v12) (V c main_v13) (V c main_v14)) := by
  refine (dat1 V c).arrAt_eq_of_covers 8 _ (by decide +kernel) fun t _ y => ?_
  blk_simp
  rw [after1_8, blk1_1, blk1_2, blk1_3, blk1_4, blk1_5, blk1_6, blk1_7]
  obtain ⟨a, b, rfl⟩ : ∃ (a : Fin 1024) (b : Fin 1024), y = ix2 a b := ⟨y 0, y 1, ValueIdx.eq_ix2 y⟩
  have ht := (idx1 t).2.2.2.2.2.2.2.2.2
  have hr : t.val * 1024 + a.val < 4096 := by omega
  have e : (win1_8.blk t).view.emb (ix2 a b) = (ix2 ⟨t.val * 1024 + a.val, hr⟩ b : S4096x1024.Idx) := by blk_ext [idx1 t]
  refine (out1_apply _ _ _ _ _ _ _ _ a b).trans ((congrArg (fun f => kerStack _ f b) (funext fun k => row1 V c t a k hr)).trans ?_)
  exact (congrArg (stackRows (V c main_v1) _) e).symm

end Cert.KernelIdeal.Value
end
-- ==== Proof.RefVec.lean ====
/- The reference's layer as a function of whole arrays, read at an index: one row of the result is one
   row's layer (`RowMath.refLayer`). -/
module
public import proofs.«01_k».proof.Proof.Gen.ReferenceIdeal.Run
public import proofs.«01_k».proof.Proof.RowMath
public import Idealize.ShloMosaic.Lib.Pointwise

@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.RowMath

/-- A row vector along the last axis, repeated over the two leading axes. -/
def wide (b : FVec Ideal S1024 .f32) : FVec Ideal S2x2048x1024 .f32 :=
  broadcastInDim S2x2048x1024 ![0, 1, 2] bcast_S1x1x1024_S2x2048x1024_0_1_2 (broadcastInDim S1x1x1024 ![2] bcast_S1024_S1x1x1024_2 b)

/-- One scalar at every index. -/
def full (b : BitVec 32) : FVec Ideal S2x2048x1024 .f32 := broadcastInDim S2x2048x1024 ![] bcast_S_S2x2048x1024 (constant S_ .f32 b)

/-- The same scalar at every index of the arrays that keep a unit last axis. -/
def full1 (b : FVec Ideal S_ .f32) : FVec Ideal S2x2048x1 .f32 := broadcastInDim S2x2048x1 ![] bcast_S_S2x2048x1 b

/-- The gate of the reference's layer. -/
def rgate (x : FVec Ideal S2x2048x1024 .f32) (w : FVec Ideal S1024x1024 .f32) (b : FVec Ideal S1024 .f32) : FVec Ideal S2x2048x1024 .f32 :=
  Host.divf (full 0x3F800000#32) (addf (full 0x3F800000#32) (Host.exp (Host.negf (addf (Host.dotGeneral dot_S2x2048x1024_S1024x1024_S2x2048x1024_2_0_01_1_n_n none x w) (wide b)))))

/-- What the reference's layer normalises. -/
def rpre (x gt : FVec Ideal S2x2048x1024 .f32) (d : FVec Ideal S1024 .f32) (w : FVec Ideal S1024x1024 .f32) (b : FVec Ideal S1024 .f32) : FVec Ideal S2x2048x1024 .f32 :=
  addf (addf (Host.dotGeneral dot_S2x2048x1024_S1024x1024_S2x2048x1024_2_0_01_1_n_n none (addf (mulf (subf (full 0x3F800000#32) gt) (broadcastInDim S2x2048x1024 ![0, 1, 2] bcast_S2x1x1024_S2x2048x1024_0_1_2 (broadcastInDim S2x1x1024 ![] bcast_S_S2x1x1024 (constant S_ .f32 0x00000000#32)))) (mulf gt (mulf x (wide d)))) w) (wide b)) x

/-- The row means, kept along a unit axis. -/
def rmean (y : FVec Ideal S2x2048x1024 .f32) : FVec Ideal S2x2048x1 .f32 :=
  Host.divf (broadcastInDim S2x2048x1 ![0, 1] bcast_S2x2048_S2x2048x1_0_1 (Host.reduceAdd y (constant S_ .f32 0x00000000#32) reducesTo_S2x2048x1024_S2x2048_d2 h_S_)) (full1 (constant S_ .f32 0x44800000#32))

/-- An array less its row means. -/
def rcen (y : FVec Ideal S2x2048x1024 .f32) : FVec Ideal S2x2048x1024 .f32 :=
  subf y (broadcastInDim S2x2048x1024 ![0, 1, 2] bcast_S2x2048x1_S2x2048x1024_0_1_2 (rmean y))

/-- The number of elements the variance divides by. -/
def rcount : FVec Ideal S_ .f32 := subf (constant S_ .f32 0x44800000#32) (sitofp .f32 (constantI S_ 32 0#32))

/-- The row variances, kept along a unit axis. -/
def rvar (e : FVec Ideal S2x2048x1024 .f32) : FVec Ideal S2x2048x1 .f32 :=
  select (broadcastInDim S2x2048x1 ![] bcast_S_S2x2048x1 (cmpf .ogt rcount (constant S_ .f32 0x00000000#32))) (Host.divf (broadcastInDim S2x2048x1 ![0, 1] bcast_S2x2048_S2x2048x1_0_1 (Host.reduceAdd (mulf e e) (constant S_ .f32 0x00000000#32) reducesTo_S2x2048x1024_S2x2048_d2 h_S_)) (full1 rcount)) (full1 (constant S_ .f32 0x7FC00000#32))

/-- The reference's layer norm. -/
def rnorm (y : FVec Ideal S2x2048x1024 .f32) (g b : FVec Ideal S1024 .f32) : FVec Ideal S2x2048x1024 .f32 :=
  addf (mulf (Host.divf (rcen y) (broadcastInDim S2x2048x1024 ![0, 1, 2] bcast_S2x2048x1_S2x2048x1024_0_1_2 (Host.sqrt (addf (rvar (rcen y)) (full1 (constant S_ .f32 0x3727C5AC#32)))))) (wide g)) (wide b)

/-- The reference's layer. -/
def rlay (x : FVec Ideal S2x2048x1024 .f32) (w : FVec Ideal S1024x1024 .f32) (b d : FVec Ideal S1024 .f32) (wo : FVec Ideal S1024x1024 .f32) (bo g be : FVec Ideal S1024 .f32) : FVec Ideal S2x2048x1024 .f32 :=
  rnorm (rpre x (rgate x w b) d wo bo) g be

/-- Matrix 0 of a stack of three. -/
def mat0 (A : FVec Ideal S3x1024x1024 .f32) : FVec Ideal S1024x1024 .f32 :=
  shapeCast _ (extractStridedSlice S1x1024x1024 ![0, 0, 0] A slices_S3x1024x1024_S1x1024x1024_0_0_0) shapeCasts_S1x1024x1024_S1024x1024
/-- Row 0 of a stack of three. -/
def vec0 (A : FVec Ideal S3x1024 .f32) : FVec Ideal S1024 .f32 :=
  shapeCast _ (extractStridedSlice S1x1024 ![0, 0] A slices_S3x1024_S1x1024_0_0) shapeCasts_S1x1024_S1024
theorem mat0_apply (A : FVec Ideal S3x1024x1024 .f32) (i j : Fin 1024) : mat0 A (ix2 i j) = A (ix3 0 i j) := by
  pointwise [mat0]
theorem vec0_apply (A : FVec Ideal S3x1024 .f32) (j : Fin 1024) : vec0 A (ix1 j) = A (ix2 0 j) := by
  pointwise [vec0]

/-- Matrix 1 of a stack of three. -/
def mat1 (A : FVec Ideal S3x1024x1024 .f32) : FVec Ideal S1024x1024 .f32 :=
  shapeCast _ (extractStridedSlice S1x1024x1024 ![1, 0, 0] A slices_S3x1024x1024_S1x1024x1024_1_0_0) shapeCasts_S1x1024x1024_S1024x1024
/-- Row 1 of a stack of three. -/
def vec1 (A : FVec Ideal S3x1024 .f32) : FVec Ideal S1024 .f32 :=
  shapeCast _ (extractStridedSlice S1x1024 ![1, 0] A slices_S3x1024_S1x1024_1_0) shapeCasts_S1x1024_S1024
theorem mat1_apply (A : FVec Ideal S3x1024x1024 .f32) (i j : Fin 1024) : mat1 A (ix2 i j) = A (ix3 1 i j) := by
  pointwise [mat1]
theorem vec1_apply (A : FVec Ideal S3x1024 .f32) (j : Fin 1024) : vec1 A (ix1 j) = A (ix2 1 j) := by
  pointwise [vec1]

/-- Matrix 2 of a stack of three. -/
def mat2 (A : FVec Ideal S3x1024x1024 .f32) : FVec Ideal S1024x1024 .f32 :=
  shapeCast _ (extractStridedSlice S1x1024x1024 ![2, 0, 0] A slices_S3x1024x1024_S1x1024x1024_2_0_0) shapeCasts_S1x1024x1024_S1024x1024
/-- Row 2 of a stack of three. -/
def vec2 (A : FVec Ideal S3x1024 .f32) : FVec Ideal S1024 .f32 :=
  shapeCast _ (extractStridedSlice S1x1024 ![2, 0] A slices_S3x1024_S1x1024_2_0) shapeCasts_S1x1024_S1024
theorem mat2_apply (A : FVec Ideal S3x1024x1024 .f32) (i j : Fin 1024) : mat2 A (ix2 i j) = A (ix3 2 i j) := by
  pointwise [mat2]
theorem vec2_apply (A : FVec Ideal S3x1024 .f32) (j : Fin 1024) : vec2 A (ix1 j) = A (ix2 2 j) := by
  pointwise [vec2]

theorem rgate_apply (x : FVec Ideal S2x2048x1024 .f32) (w : FVec Ideal S1024x1024 .f32) (b : FVec Ideal S1024 .f32) (p : Fin 2) (q : Fin 2048) (j : Fin 1024) :
    rgate x w b (ix3 p q j) = Ideal.div 1 (1 + Ideal.exp (-(∑ k, x (ix3 p q k) * w (ix2 k j) + b (ix1 j)))) := by
  pointwise [rgate, full, wide]

theorem rpre_apply (x gt : FVec Ideal S2x2048x1024 .f32) (d : FVec Ideal S1024 .f32) (w : FVec Ideal S1024x1024 .f32) (b : FVec Ideal S1024 .f32) (p : Fin 2) (q : Fin 2048) (j : Fin 1024) :
    rpre x gt d w b (ix3 p q j) = ∑ k, ((1 - gt (ix3 p q k)) * 0 + gt (ix3 p q k) * (x (ix3 p q k) * d (ix1 k))) * w (ix2 k j) + b (ix1 j) + x (ix3 p q j) := by
  pointwise [rpre, full, wide]

theorem rnorm_apply (y : FVec Ideal S2x2048x1024 .f32) (g b : FVec Ideal S1024 .f32) (p : Fin 2) (q : Fin 2048) (j : Fin 1024) :
    rnorm y g b (ix3 p q j) = refNorm (fun k => g (ix1 k)) (fun k => b (ix1 k)) (fun k => y (ix3 p q k)) j := by
  pointwise [rnorm, rcen, rvar, rmean, rcount, full1, wide]
  rfl

/-- One row of the layer's result is the layer of that row. -/
theorem rlay_apply (x : FVec Ideal S2x2048x1024 .f32) (w : FVec Ideal S1024x1024 .f32) (b d : FVec Ideal S1024 .f32) (wo : FVec Ideal S1024x1024 .f32) (bo g be : FVec Ideal S1024 .f32) (p : Fin 2) (q : Fin 2048) (j : Fin 1024) :
    rlay x w b d wo bo g be (ix3 p q j) = refLayer ⟨fun i k => w (ix2 i k), fun k => b (ix1 k), fun k => d (ix1 k), fun i k => wo (ix2 i k), fun k => bo (ix1 k), fun k => g (ix1 k), fun k => be (ix1 k)⟩ (fun k => x (ix3 p q k)) j := by
  rw [rlay, rnorm_apply, refLayer]
  refine congrArg (fun y => refNorm _ _ y j) (funext fun k => ?_)
  rw [rpre_apply]
  simp only [rgate_apply]
  rfl

end Cert.ReferenceIdeal.Value
end
-- ==== Proof.RefValue.lean ====
/- The reference's three results at an index, from the arguments' rows. -/
module
public import proofs.«01_k».proof.Proof.RefVec

@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.RowMath

/-- The layers of a stack whose parameters are these seven arrays. -/
def layers (Win : FVec Ideal S3x1024x1024 .f32) (bin dec : FVec Ideal S3x1024 .f32) (Wout : FVec Ideal S3x1024x1024 .f32) (bout gam bet : FVec Ideal S3x1024 .f32) : Fin 3 → Layer :=
  layerOf (fun n i k => Win (ix3 n i k)) (fun n k => bin (ix2 n k)) (fun n k => dec (ix2 n k)) (fun n i k => Wout (ix3 n i k)) (fun n k => bout (ix2 n k)) (fun n k => gam (ix2 n k)) (fun n k => bet (ix2 n k))

/-- The reference's three layers on whole arrays. -/
def rstack (x : FVec Ideal S2x2048x1024 .f32) (Win : FVec Ideal S3x1024x1024 .f32) (bin dec : FVec Ideal S3x1024 .f32) (Wout : FVec Ideal S3x1024x1024 .f32) (bout gam bet : FVec Ideal S3x1024 .f32) : FVec Ideal S2x2048x1024 .f32 :=
  rlay (rlay (rlay x (mat0 Win) (vec0 bin) (vec0 dec) (mat0 Wout) (vec0 bout) (vec0 gam) (vec0 bet))
    (mat1 Win) (vec1 bin) (vec1 dec) (mat1 Wout) (vec1 bout) (vec1 gam) (vec1 bet))
    (mat2 Win) (vec2 bin) (vec2 dec) (mat2 Wout) (vec2 bout) (vec2 gam) (vec2 bet)

theorem rstack_apply (x : FVec Ideal S2x2048x1024 .f32) (Win : FVec Ideal S3x1024x1024 .f32) (bin dec : FVec Ideal S3x1024 .f32) (Wout : FVec Ideal S3x1024x1024 .f32) (bout gam bet : FVec Ideal S3x1024 .f32) (p : Fin 2) (q : Fin 2048) (j : Fin 1024) :
    rstack x Win bin dec Wout bout gam bet (ix3 p q j) = refStack (layers Win bin dec Wout bout gam bet) (fun k => x (ix3 p q k)) j := by
  simp only [rstack, rlay_apply, mat0_apply, mat1_apply, mat2_apply, vec0_apply, vec1_apply, vec2_apply]
  rfl

variable (V0 : Valuation τ sig (Elt Ideal))

theorem v56_eq : res_main_v56 V0 = rlay (V0 (Proc.devRef .tc main_arg0)) (mat0 (V0 (Proc.devRef .tc main_arg2))) (vec0 (V0 (Proc.devRef .tc main_arg3))) (vec0 (V0 (Proc.devRef .tc main_arg4))) (mat0 (V0 (Proc.devRef .tc main_arg5))) (vec0 (V0 (Proc.devRef .tc main_arg6))) (vec0 (V0 (Proc.devRef .tc main_arg7))) (vec0 (V0 (Proc.devRef .tc main_arg8))) := rfl
theorem v113_eq : res_main_v113 V0 = rlay (res_main_v56 V0) (mat1 (V0 (Proc.devRef .tc main_arg2))) (vec1 (V0 (Proc.devRef .tc main_arg3))) (vec1 (V0 (Proc.devRef .tc main_arg4))) (mat1 (V0 (Proc.devRef .tc main_arg5))) (vec1 (V0 (Proc.devRef .tc main_arg6))) (vec1 (V0 (Proc.devRef .tc main_arg7))) (vec1 (V0 (Proc.devRef .tc main_arg8))) := rfl
theorem v170_eq : res_main_v170 V0 = rlay (res_main_v113 V0) (mat2 (V0 (Proc.devRef .tc main_arg2))) (vec2 (V0 (Proc.devRef .tc main_arg3))) (vec2 (V0 (Proc.devRef .tc main_arg4))) (mat2 (V0 (Proc.devRef .tc main_arg5))) (vec2 (V0 (Proc.devRef .tc main_arg6))) (vec2 (V0 (Proc.devRef .tc main_arg7))) (vec2 (V0 (Proc.devRef .tc main_arg8))) := rfl
theorem v227_eq : res_main_v227 V0 = rlay (V0 (Proc.devRef .tc main_arg1)) (mat0 (V0 (Proc.devRef .tc main_arg9))) (vec0 (V0 (Proc.devRef .tc main_arg10))) (vec0 (V0 (Proc.devRef .tc main_arg11))) (mat0 (V0 (Proc.devRef .tc main_arg12))) (vec0 (V0 (Proc.devRef .tc main_arg13))) (vec0 (V0 (Proc.devRef .tc main_arg14))) (vec0 (V0 (Proc.devRef .tc main_arg15))) := rfl
theorem v284_eq : res_main_v284 V0 = rlay (res_main_v227 V0) (mat1 (V0 (Proc.devRef .tc main_arg9))) (vec1 (V0 (Proc.devRef .tc main_arg10))) (vec1 (V0 (Proc.devRef .tc main_arg11))) (mat1 (V0 (Proc.devRef .tc main_arg12))) (vec1 (V0 (Proc.devRef .tc main_arg13))) (vec1 (V0 (Proc.devRef .tc main_arg14))) (vec1 (V0 (Proc.devRef .tc main_arg15))) := rfl

/-- The encoded context. -/
theorem context_eq : res_main_v170 V0 = rstack (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  rw [v170_eq, v113_eq, v56_eq, rstack]

/-- The encoded target. -/
def rtarget : FVec Ideal S2x2048x1024 .f32 := rstack (V0 (Proc.devRef .tc main_arg1)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))

theorem target_eq : rlay (res_main_v284 V0) (mat2 (V0 (Proc.devRef .tc main_arg9))) (vec2 (V0 (Proc.devRef .tc main_arg10))) (vec2 (V0 (Proc.devRef .tc main_arg11))) (mat2 (V0 (Proc.devRef .tc main_arg12))) (vec2 (V0 (Proc.devRef .tc main_arg13))) (vec2 (V0 (Proc.devRef .tc main_arg14))) (vec2 (V0 (Proc.devRef .tc main_arg15))) = rtarget V0 := by
  rw [v284_eq, v227_eq, rtarget, rstack]

/-- The softmax over the experts of a context. -/
def rprobs (z : FVec Ideal S2x2048x1024 .f32) (Wg : FVec Ideal S1024x4 .f32) (bg : FVec Ideal S4 .f32) : FVec Ideal S2x2048x4 .f32 :=
  let l := addf (Host.dotGeneral dot_S2x2048x1024_S1024x4_S2x2048x4_2_0_01_1_n_n none z Wg) (broadcastInDim S2x2048x4 ![0, 1, 2] bcast_S1x1x4_S2x2048x4_0_1_2 (broadcastInDim S1x1x4 ![2] bcast_S4_S1x1x4_2 bg))
  let e := Host.exp (subf l (broadcastInDim S2x2048x4 ![0, 1, 2] bcast_S2x2048x1_S2x2048x4_0_1_2 (broadcastInDim S2x2048x1 ![0, 1] bcast_S2x2048_S2x2048x1_0_1 (maximumf (broadcastInDim S2x2048 ![] bcast_S_S2x2048 (constant S_ .f32 0xFF800000#32)) (Host.reduce FloatOps.maximumf l (constant S_ .f32 0xFF800000#32) reducesTo_S2x2048x4_S2x2048_d2 h_S_)))))
  Host.divf e (broadcastInDim S2x2048x4 ![0, 1, 2] bcast_S2x2048x1_S2x2048x4_0_1_2 (broadcastInDim S2x2048x1 ![0, 1] bcast_S2x2048_S2x2048x1_0_1 (Host.reduceAdd e (constant S_ .f32 0x00000000#32) reducesTo_S2x2048x4_S2x2048_d2 h_S_)))

/-- The experts' outputs of a context, weighted. -/
def rmix (pr : FVec Ideal S2x2048x4 .f32) (z : FVec Ideal S2x2048x1024 .f32) (We : FVec Ideal S4x1024x1024 .f32) (be : FVec Ideal S4x1024 .f32) : FVec Ideal S2x2048x1024 .f32 :=
  Host.dotGeneral dot_S2x2048x4_S2x2048x4x1024_S2x2048x1024_2_2_n_3_01_01 none pr (addf (Host.dotGeneral dot_S2x2048x1024_S4x1024x1024_S2x2048x4x1024_2_1_01_02_n_n none z We) (broadcastInDim S2x2048x4x1024 ![0, 1, 2, 3] bcast_S1x1x4x1024_S2x2048x4x1024_0_1_2_3 (broadcastInDim S1x1x4x1024 ![2, 3] bcast_S4x1024_S1x1x4x1024_2_3 be)))

theorem rprobs_apply (z : FVec Ideal S2x2048x1024 .f32) (Wg : FVec Ideal S1024x4 .f32) (bg : FVec Ideal S4 .f32) (p : Fin 2) (q : Fin 2048) (e : Fin 4) :
    rprobs z Wg bg (ix3 p q e) = soft (logit (fun x e => Wg (ix2 x e)) (fun e => bg (ix1 e)) fun k => z (ix3 p q k)) e := by
  pointwise [rprobs]
  rfl

theorem rmix_apply (pr : FVec Ideal S2x2048x4 .f32) (z : FVec Ideal S2x2048x1024 .f32) (We : FVec Ideal S4x1024x1024 .f32) (be : FVec Ideal S4x1024 .f32) (p : Fin 2) (q : Fin 2048) (j : Fin 1024) :
    rmix pr z We be (ix3 p q j) = mix (fun e => pr (ix3 p q e)) (fun e i k => We (ix3 e i k)) (fun e k => be (ix2 e k)) (fun k => z (ix3 p q k)) j := by
  pointwise [rmix]
  rw [Fin.sum_univ_four]
  rfl

end Cert.ReferenceIdeal.Value
end
-- ==== Proof.KerValue.lean ====
/- The kernel's three results at an index, from the arguments' rows. -/
module
public import proofs.«01_k».proof.Proof.KerArr0
public import proofs.«01_k».proof.Proof.KerArr1
public import proofs.«01_k».proof.Proof.RefValue

@[expose] public section
set_option maxRecDepth 16384
noncomputable section
open Idealize.ShloMosaic Idealize.ShloMosaic.TcCoe Idealize.SL.Sem
namespace Cert.KernelIdeal.Value
open Cert.KernelIdeal Cert.KernelIdeal.Gen Cert.RowMath
open Cert.ReferenceIdeal.Value (layers)

/-- The row of a flattened array that holds row `q` of batch `p`. -/
def flatRow (p : Fin 2) (q : Fin 2048) : Fin 4096 := ⟨p.val * 2048 + q.val, by omega⟩

theorem up_apply (X : FVec Ideal S4096x1024 .f32) (p : Fin 2) (q : Fin 2048) (j : Fin 1024) :
    shapeCast S2x2048x1024 X shapeCasts_S4096x1024_S2x2048x1024 (ix3 p q j) = X (ix2 (flatRow p q) j) := by
  pointwise [flatRow]; try blk_ext
theorem up4_apply (X : FVec Ideal S4096x4 .f32) (p : Fin 2) (q : Fin 2048) (j : Fin 4) :
    shapeCast S2x2048x4 X shapeCasts_S4096x4_S2x2048x4 (ix3 p q j) = X (ix2 (flatRow p q) j) := by
  pointwise [flatRow]; try blk_ext
theorem down_apply (A : FVec Ideal S2x2048x1024 .f32) (p : Fin 2) (q : Fin 2048) (j : Fin 1024) :
    shapeCast S4096x1024 A shapeCasts_S2x2048x1024_S4096x1024 (ix2 (flatRow p q) j) = A (ix3 p q j) := by
  pointwise [flatRow]; try blk_ext
theorem mid_apply (A : FVec Ideal S3x1024 .f32) (n : Fin 3) (j : Fin 1024) :
    shapeCast S3x1x1024 A shapeCasts_S3x1024_S3x1x1024 (ix3 n 0 j) = A (ix2 n j) := by
  pointwise; try blk_ext
theorem mid4_apply (A : FVec Ideal S4x1024 .f32) (n : Fin 4) (j : Fin 1024) :
    shapeCast S4x1x1024 A shapeCasts_S4x1024_S4x1x1024 (ix3 n 0 j) = A (ix2 n j) := by
  pointwise; try blk_ext
theorem lead_apply (A : FVec Ideal S4 .f32) (e : Fin 4) :
    shapeCast S1x4 A shapeCasts_S4_S1x4 (ix2 0 e) = A (ix1 e) := by
  pointwise; try blk_ext

theorem layers_eq (Win : FVec Ideal S3x1024x1024 .f32) (bin dec : FVec Ideal S3x1024 .f32) (Wout : FVec Ideal S3x1024x1024 .f32) (bout gam bet : FVec Ideal S3x1024 .f32) :
    blockLayers Win (shapeCast S3x1x1024 bin shapeCasts_S3x1024_S3x1x1024) (shapeCast S3x1x1024 dec shapeCasts_S3x1024_S3x1x1024) Wout (shapeCast S3x1x1024 bout shapeCasts_S3x1024_S3x1x1024) (shapeCast S3x1x1024 gam shapeCasts_S3x1024_S3x1x1024) (shapeCast S3x1x1024 bet shapeCasts_S3x1024_S3x1x1024)
      = layers Win bin dec Wout bout gam bet := by
  simp only [blockLayers, layers, mid_apply]

theorem stackRows_apply (A : FVec Ideal S2x2048x1024 .f32) (L : Fin 3 → Layer) (p : Fin 2) (q : Fin 2048) (j : Fin 1024) :
    shapeCast S2x2048x1024 (stackRows (shapeCast S4096x1024 A shapeCasts_S2x2048x1024_S4096x1024) L) shapeCasts_S4096x1024_S2x2048x1024 (ix3 p q j)
      = kerStack L (fun k => A (ix3 p q k)) j := by
  rw [up_apply]
  exact congrArg (fun f => kerStack L f j) (funext fun k => down_apply A p q k)

theorem probRows_apply (A : FVec Ideal S2x2048x1024 .f32) (L : Fin 3 → Layer) (wg : FVec Ideal S1024x4 .f32) (bg : FVec Ideal S4 .f32) (p : Fin 2) (q : Fin 2048) (e : Fin 4) :
    shapeCast S2x2048x4 (probRows (shapeCast S4096x1024 A shapeCasts_S2x2048x1024_S4096x1024) L wg (shapeCast S1x4 bg shapeCasts_S4_S1x4)) shapeCasts_S4096x4_S2x2048x4 (ix3 p q e)
      = soft (logit (fun x e => wg (ix2 x e)) (fun e => bg (ix1 e)) (kerStack L (fun k => A (ix3 p q k)))) e := by
  rw [up4_apply]
  refine (congrArg (fun f => blockProbs wg (shapeCast S1x4 bg shapeCasts_S4_S1x4) (kerStack L f) e) (funext fun k => down_apply A p q k)).trans ?_
  simp only [blockProbs, lead_apply]

theorem mixRows_apply (A : FVec Ideal S2x2048x1024 .f32) (L : Fin 3 → Layer) (wg : FVec Ideal S1024x4 .f32) (bg : FVec Ideal S4 .f32) (we : FVec Ideal S4x1024x1024 .f32) (be : FVec Ideal S4x1024 .f32) (p : Fin 2) (q : Fin 2048) (j : Fin 1024) :
    shapeCast S2x2048x1024 (mixRows (shapeCast S4096x1024 A shapeCasts_S2x2048x1024_S4096x1024) L wg (shapeCast S1x4 bg shapeCasts_S4_S1x4) we (shapeCast S4x1x1024 be shapeCasts_S4x1024_S4x1x1024)) shapeCasts_S4096x1024_S2x2048x1024 (ix3 p q j)
      = mix (soft (logit (fun x e => wg (ix2 x e)) (fun e => bg (ix1 e)) (kerStack L (fun k => A (ix3 p q k))))) (fun e i k => we (ix3 e i k)) (fun e k => be (ix2 e k)) (kerStack L (fun k => A (ix3 p q k))) j := by
  rw [up_apply]
  refine (congrArg (fun f => blockMix wg (shapeCast S1x4 bg shapeCasts_S4_S1x4) we (shapeCast S4x1x1024 be shapeCasts_S4x1024_S4x1x1024) (kerStack L f) j) (funext fun k => down_apply A p q k)).trans ?_
  simp only [blockMix, blockProbs, lead_apply, mid4_apply]

variable (m : (ℓ : Loc nD τ sig) → Buf (Elt Ideal) ℓ) (ρ : Dev nD → PrngReg) (c : Dev nD)

theorem e_v0 : V1 m ρ c main_v0 = shapeCast _ (m ((c : Thread nD τ).loc main_arg0)) shapeCasts_S2x2048x1024_S4096x1024 := rfl
theorem e_v2 : V1 m ρ c main_v2 = shapeCast _ (m ((c : Thread nD τ).loc main_arg3)) shapeCasts_S3x1024_S3x1x1024 := rfl
theorem e_v3 : V1 m ρ c main_v3 = shapeCast _ (m ((c : Thread nD τ).loc main_arg4)) shapeCasts_S3x1024_S3x1x1024 := rfl
theorem e_v4 : V1 m ρ c main_v4 = shapeCast _ (m ((c : Thread nD τ).loc main_arg6)) shapeCasts_S3x1024_S3x1x1024 := rfl
theorem e_v5 : V1 m ρ c main_v5 = shapeCast _ (m ((c : Thread nD τ).loc main_arg7)) shapeCasts_S3x1024_S3x1x1024 := rfl
theorem e_v6 : V1 m ρ c main_v6 = shapeCast _ (m ((c : Thread nD τ).loc main_arg8)) shapeCasts_S3x1024_S3x1x1024 := rfl
theorem e_v7 : V1 m ρ c main_v7 = shapeCast _ (m ((c : Thread nD τ).loc main_arg17)) shapeCasts_S4_S1x4 := rfl
theorem e_v8 : V1 m ρ c main_v8 = shapeCast _ (m ((c : Thread nD τ).loc main_arg19)) shapeCasts_S4x1024_S4x1x1024 := rfl
theorem e_arg2 : V1 m ρ c main_arg2 = (m ((c : Thread nD τ).loc main_arg2)) := W1_args m ρ c main_arg2 (by decide)
theorem e_arg5 : V1 m ρ c main_arg5 = (m ((c : Thread nD τ).loc main_arg5)) := W1_args m ρ c main_arg5 (by decide)
theorem e_arg16 : V1 m ρ c main_arg16 = (m ((c : Thread nD τ).loc main_arg16)) := W1_args m ρ c main_arg16 (by decide)
theorem e_arg18 : V1 m ρ c main_arg18 = (m ((c : Thread nD τ).loc main_arg18)) := W1_args m ρ c main_arg18 (by decide)
theorem e_v1 : V3 m ρ c main_v1 = shapeCast _ (m ((c : Thread nD τ).loc main_arg1)) shapeCasts_S2x2048x1024_S4096x1024 :=
  (W3_of m ρ c main_v1 (by decide)).trans ((W2_of m ρ c main_v1 (by decide)).trans rfl)
theorem e_v10 : V3 m ρ c main_v10 = shapeCast _ (m ((c : Thread nD τ).loc main_arg10)) shapeCasts_S3x1024_S3x1x1024 :=
  (show V3 m ρ c main_v10 = shapeCast _ (W2 m ρ c (Proc.devRef .tc main_arg10)) shapeCasts_S3x1024_S3x1x1024 from rfl).trans (congrArg (fun A => shapeCast _ A shapeCasts_S3x1024_S3x1x1024) (W2_args m ρ c main_arg10 (by decide)))
theorem e_v11 : V3 m ρ c main_v11 = shapeCast _ (m ((c : Thread nD τ).loc main_arg11)) shapeCasts_S3x1024_S3x1x1024 :=
  (show V3 m ρ c main_v11 = shapeCast _ (W2 m ρ c (Proc.devRef .tc main_arg11)) shapeCasts_S3x1024_S3x1x1024 from rfl).trans (congrArg (fun A => shapeCast _ A shapeCasts_S3x1024_S3x1x1024) (W2_args m ρ c main_arg11 (by decide)))
theorem e_v12 : V3 m ρ c main_v12 = shapeCast _ (m ((c : Thread nD τ).loc main_arg13)) shapeCasts_S3x1024_S3x1x1024 :=
  (show V3 m ρ c main_v12 = shapeCast _ (W2 m ρ c (Proc.devRef .tc main_arg13)) shapeCasts_S3x1024_S3x1x1024 from rfl).trans (congrArg (fun A => shapeCast _ A shapeCasts_S3x1024_S3x1x1024) (W2_args m ρ c main_arg13 (by decide)))
theorem e_v13 : V3 m ρ c main_v13 = shapeCast _ (m ((c : Thread nD τ).loc main_arg14)) shapeCasts_S3x1024_S3x1x1024 :=
  (show V3 m ρ c main_v13 = shapeCast _ (W2 m ρ c (Proc.devRef .tc main_arg14)) shapeCasts_S3x1024_S3x1x1024 from rfl).trans (congrArg (fun A => shapeCast _ A shapeCasts_S3x1024_S3x1x1024) (W2_args m ρ c main_arg14 (by decide)))
theorem e_v14 : V3 m ρ c main_v14 = shapeCast _ (m ((c : Thread nD τ).loc main_arg15)) shapeCasts_S3x1024_S3x1x1024 :=
  (show V3 m ρ c main_v14 = shapeCast _ (W2 m ρ c (Proc.devRef .tc main_arg15)) shapeCasts_S3x1024_S3x1x1024 from rfl).trans (congrArg (fun A => shapeCast _ A shapeCasts_S3x1024_S3x1x1024) (W2_args m ρ c main_arg15 (by decide)))
theorem e_arg9 : V3 m ρ c main_arg9 = (m ((c : Thread nD τ).loc main_arg9)) := W3_args m ρ c main_arg9 (by decide)
theorem e_arg12 : V3 m ρ c main_arg12 = (m ((c : Thread nD τ).loc main_arg12)) := W3_args m ρ c main_arg12 (by decide)

/-- The encoded target. -/
theorem target_apply (p : Fin 2) (q : Fin 2048) (j : Fin 1024) :
    W5 m ρ c (Proc.devRef .tc main_v18) (ix3 p q j) = kerStack (layers (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (fun k => (m ((c : Thread nD τ).loc main_arg1)) (ix3 p q k)) j := by
  have h : W5 m ρ c (Proc.devRef .tc main_v18) = shapeCast _ (W4 m ρ c (Proc.devRef .tc main_v15)) shapeCasts_S4096x1024_S2x2048x1024 := rfl
  have h4 := (W4_arr m ρ c 8).trans (final1 (V3 m ρ) c)
  rw [e_v1, e_arg9, e_v10, e_v11, e_arg12, e_v12, e_v13, e_v14, layers_eq] at h4
  rw [h]
  exact (congrFun (congrArg (fun X => shapeCast S2x2048x1024 X shapeCasts_S4096x1024_S2x2048x1024) h4) (ix3 p q j)).trans (stackRows_apply _ _ p q j)

/-- The experts' probabilities. -/
theorem probs_apply (p : Fin 2) (q : Fin 2048) (e : Fin 4) :
    W5 m ρ c (Proc.devRef .tc main_v17) (ix3 p q e) = soft (logit (fun x e => (m ((c : Thread nD τ).loc main_arg16)) (ix2 x e)) (fun e => (m ((c : Thread nD τ).loc main_arg17)) (ix1 e)) (kerStack (layers (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun k => (m ((c : Thread nD τ).loc main_arg0)) (ix3 p q k)))) e := by
  have h : W5 m ρ c (Proc.devRef .tc main_v17) = shapeCast _ (W4 m ρ c (Proc.devRef .tc main_v9_1)) shapeCasts_S4096x4_S2x2048x4 := rfl
  have h4 := (W4_of m ρ c main_v9_1 (by decide)).trans ((W3_of m ρ c main_v9_1 (by decide)).trans ((W2_arr m ρ c 13).trans (final13 (V1 m ρ) c)))
  rw [e_v0, e_arg2, e_v2, e_v3, e_arg5, e_v4, e_v5, e_v6, e_arg16, e_v7, layers_eq] at h4
  rw [h]
  exact (congrFun (congrArg (fun X => shapeCast S2x2048x4 X shapeCasts_S4096x4_S2x2048x4) h4) (ix3 p q e)).trans (probRows_apply _ _ _ _ p q e)

/-- The predicted target. -/
theorem mix_apply (p : Fin 2) (q : Fin 2048) (j : Fin 1024) :
    W5 m ρ c (Proc.devRef .tc main_v16) (ix3 p q j) = mix (soft (logit (fun x e => (m ((c : Thread nD τ).loc main_arg16)) (ix2 x e)) (fun e => (m ((c : Thread nD τ).loc main_arg17)) (ix1 e)) (kerStack (layers (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun k => (m ((c : Thread nD τ).loc main_arg0)) (ix3 p q k))))) (fun e i k => (m ((c : Thread nD τ).loc main_arg18)) (ix3 e i k)) (fun e k => (m ((c : Thread nD τ).loc main_arg19)) (ix2 e k)) (kerStack (layers (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun k => (m ((c : Thread nD τ).loc main_arg0)) (ix3 p q k))) j := by
  have h : W5 m ρ c (Proc.devRef .tc main_v16) = shapeCast _ (W4 m ρ c (Proc.devRef .tc main_v9_0)) shapeCasts_S4096x1024_S2x2048x1024 := rfl
  have h4 := (W4_of m ρ c main_v9_0 (by decide)).trans ((W3_of m ρ c main_v9_0 (by decide)).trans ((W2_arr m ρ c 12).trans (final12 (V1 m ρ) c)))
  rw [e_v0, e_arg2, e_v2, e_v3, e_arg5, e_v4, e_v5, e_v6, e_arg16, e_v7, e_arg18, e_v8, layers_eq] at h4
  rw [h]
  exact (congrFun (congrArg (fun X => shapeCast S2x2048x1024 X shapeCasts_S4096x1024_S2x2048x1024) h4) (ix3 p q j)).trans (mixRows_apply _ _ _ _ _ _ p q j)

end Cert.KernelIdeal.Value
end
-- ==== Proof.Algebraic.lean ====
/- The value claim: on inputs the precondition admits, the two programs give the same three results. -/
module
public import proofs.«01_k».proof.Defs
public import proofs.«01_k».proof.Proof.PreReal
public import proofs.«01_k».proof.Proof.KerRun
public import proofs.«01_k».proof.Proof.KerValue

@[expose] public section
set_option maxRecDepth 16384
noncomputable section
open Idealize.ShloMosaic Idealize.ShloMosaic.TcCoe Idealize.SL.Sem Idealize.ShloMosaic.StableHlo
namespace Cert.Final
open Cert.RowMath Cert.ReferenceIdeal Cert.ReferenceIdeal.Gen
open Cert.ReferenceIdeal.Value (layers rstack rprobs rmix rlay rstack_apply rprobs_apply rmix_apply context_eq target_eq rtarget)
open Cert.KernelIdeal.Gen (W5)

/-- On a real row the kernel's stack is the reference's. -/
theorem stack_row (x : FVec Ideal S2x2048x1024 .f32) (Win : FVec Ideal S3x1024x1024 .f32) (bin dec : FVec Ideal S3x1024 .f32) (Wout : FVec Ideal S3x1024x1024 .f32) (bout gam bet : FVec Ideal S3x1024 .f32)
    (hx : ∀ i, Real' (x i)) (hd : ∀ i, Real' (dec i)) (hw : ∀ i, Real' (Wout i)) (ho : ∀ i, Real' (bout i)) (hg : ∀ i, Real' (gam i)) (hb : ∀ i, Real' (bet i)) (p : Fin 2) (q : Fin 2048) :
    kerStack (layers Win bin dec Wout bout gam bet) (fun k => x (ix3 p q k)) = fun k => rstack x Win bin dec Wout bout gam bet (ix3 p q k) := by
  rw [stack_eq _ (fun n => ⟨fun j => hd (ix2 n j), fun i j => hw (ix3 n i j), fun j => ho (ix2 n j), fun j => hg (ix2 n j), fun j => hb (ix2 n j)⟩) _ (fun j => hx (ix3 p q j))]
  exact funext fun k => (rstack_apply x Win bin dec Wout bout gam bet p q k).symm

section
variable (m : (ℓ : Loc Cert.KernelIdeal.nD Cert.KernelIdeal.τ Cert.KernelIdeal.sig) → Buf (Elt Ideal) ℓ) (g : Dev Cert.KernelIdeal.nD → PrngReg) (c : Dev Cert.KernelIdeal.nD)

theorem context_row (hP : Cert.Pre_KernelIdeal_finite (hPre_finite := Cert.Pre_finite.facts) m) (p : Fin 2) (q : Fin 2048) :
    kerStack (layers (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (fun k => (m ((c.tc : Thread Cert.KernelIdeal.nD Cert.KernelIdeal.τ).loc Cert.KernelIdeal.main_arg0)) (ix3 p q k)) = fun k => rstack (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (ix3 p q k) := by
  obtain ⟨h0, h1, h4, h5, h6, h7, h8, h11, h12, h13, h14, h15⟩ := @Cert.Pre_finite.reals Cert.Pre_finite.facts _ _ _ _ _ _ _ _ _ _ _ _ _ _ _ _ _ _ _ _ (hP c)
  exact stack_row _ _ _ _ _ _ _ _ h0 h4 h5 h6 h7 h8 p q

theorem target_row (hP : Cert.Pre_KernelIdeal_finite (hPre_finite := Cert.Pre_finite.facts) m) (p : Fin 2) (q : Fin 2048) :
    kerStack (layers (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (fun k => (m ((c.tc : Thread Cert.KernelIdeal.nD Cert.KernelIdeal.τ).loc Cert.KernelIdeal.main_arg1)) (ix3 p q k)) = fun k => rstack (m ((c.tc : Thread Cert.KernelIdeal.nD Cert.KernelIdeal.τ).loc Cert.KernelIdeal.main_arg1)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (ix3 p q k) := by
  obtain ⟨h0, h1, h4, h5, h6, h7, h8, h11, h12, h13, h14, h15⟩ := @Cert.Pre_finite.reals Cert.Pre_finite.facts _ _ _ _ _ _ _ _ _ _ _ _ _ _ _ _ _ _ _ _ (hP c)
  exact stack_row _ _ _ _ _ _ _ _ h1 h11 h12 h13 h14 h15 p q

/-- The kernel's encoded target is the reference's expression of the arguments. -/
theorem target_same (hP : Cert.Pre_KernelIdeal_finite (hPre_finite := Cert.Pre_finite.facts) m) : W5 m g c (Proc.devRef .tc Cert.KernelIdeal.main_v18) = rstack (m ((c.tc : Thread Cert.KernelIdeal.nD Cert.KernelIdeal.τ).loc Cert.KernelIdeal.main_arg1)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) := by
  refine funext fun (i : S2x2048x1024.Idx) => ?_
  obtain ⟨p, q, j, rfl⟩ : ∃ (p : Fin 2) (q : Fin 2048) (j : Fin 1024), i = ix3 p q j := ⟨i 0, i 1, i 2, ValueIdx.eq_ix3 i⟩
  exact (Cert.KernelIdeal.Value.target_apply m g c p q j).trans (congrFun (target_row m c hP p q) _)

/-- The kernel's probabilities likewise. -/
theorem probs_same (hP : Cert.Pre_KernelIdeal_finite (hPre_finite := Cert.Pre_finite.facts) m) : W5 m g c (Proc.devRef .tc Cert.KernelIdeal.main_v17) = rprobs (rstack (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) := by
  refine funext fun (i : S2x2048x4.Idx) => ?_
  obtain ⟨p, q, j, rfl⟩ : ∃ (p : Fin 2) (q : Fin 2048) (j : Fin 4), i = ix3 p q j := ⟨i 0, i 1, i 2, ValueIdx.eq_ix3 i⟩
  refine (Cert.KernelIdeal.Value.probs_apply m g c p q j).trans ?_
  rw [context_row m c hP p q]
  exact (rprobs_apply _ _ _ p q j).symm

/-- The kernel's prediction likewise. -/
theorem mix_same (hP : Cert.Pre_KernelIdeal_finite (hPre_finite := Cert.Pre_finite.facts) m) : W5 m g c (Proc.devRef .tc Cert.KernelIdeal.main_v16) = rmix (rprobs (rstack (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) (rstack (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) := by
  refine funext fun (i : S2x2048x1024.Idx) => ?_
  obtain ⟨p, q, j, rfl⟩ : ∃ (p : Fin 2) (q : Fin 2048) (j : Fin 1024), i = ix3 p q j := ⟨i 0, i 1, i 2, ValueIdx.eq_ix3 i⟩
  refine (Cert.KernelIdeal.Value.mix_apply m g c p q j).trans ?_
  rw [context_row m c hP p q]
  refine Eq.trans ?_ (rmix_apply _ _ _ _ p q j).symm
  exact congrArg (fun w => mix w _ _ _ _) (funext fun e => (rprobs_apply _ _ _ p q e).symm)
end

/-- The reference's run, its results in the same expressions. -/
theorem refRun (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread nD τ).loc main_v361) = rmix (rprobs (rstack (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))) (rstack (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))
      ∧ r.2.mem ((c.tc : Thread nD τ).loc main_v356) = rprobs (rstack (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))
      ∧ r.2.mem ((c.tc : Thread nD τ).loc main_v341) = rstack (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)) := by
  refine (θ_run _ _ _).mono (fun r h c => ?_) (Cert.ReferenceIdeal.Value.run m' g')
  obtain ⟨h0, h1, h2, hargs⟩ := h c
  have hz := context_eq (launchContents m' c)
  have ht := target_eq (launchContents m' c)
  have p1 : r.2.mem ((c.tc : Thread nD τ).loc main_v356) = rprobs (Cert.ReferenceIdeal.Value.res_main_v170 (launchContents m' c)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) := h1
  have p0 : r.2.mem ((c.tc : Thread nD τ).loc main_v361) = rmix (rprobs (Cert.ReferenceIdeal.Value.res_main_v170 (launchContents m' c)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17))) (Cert.ReferenceIdeal.Value.res_main_v170 (launchContents m' c)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) := h0
  rw [hz] at p0 p1
  exact ⟨p0, p1, h2.trans ht, hargs⟩

/-- The value claim. -/
theorem algebraic : Cert.algebraic_KernelIdeal_ReferenceIdeal_pre_finite (hKernelIdeal := Cert.KernelIdeal.Gen.facts) (hReferenceIdeal := Cert.ReferenceIdeal.Gen.facts) (hPre_finite := Cert.Pre_finite.facts) := by
  intro m g m' g' hP hA
  refine ⟨fun c => W5 m g c (Proc.devRef .tc Cert.KernelIdeal.main_v16), fun c => W5 m g c (Proc.devRef .tc Cert.KernelIdeal.main_v17), fun c => W5 m g c (Proc.devRef .tc Cert.KernelIdeal.main_v18), Cert.KernelIdeal.Value.valueRun m g, ?_⟩
  refine (θ_run _ _ _).mono (fun r h c => ?_) (refRun m' g')
  obtain ⟨h0, h1, h2, hargs⟩ := h c
  obtain ⟨a0, a1, a2, a3, a4, a5, a6, a7, a8, a9, a10, a11, a12, a13, a14, a15, a16, a17, a18, a19⟩ := hA c
  rw [a0, a2, a3, a4, a5, a6, a7, a8, a16, a17, a18, a19] at h0
  rw [a0, a2, a3, a4, a5, a6, a7, a8, a16, a17] at h1
  rw [a1, a9, a10, a11, a12, a13, a14, a15] at h2
  exact ⟨h0.trans (mix_same m g c hP).symm, h1.trans (probs_same m g c hP).symm, h2.trans (target_same m g c hP).symm, hargs⟩

end Cert.Final
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.PreFacts
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_R : Cert.quiescent_ReferenceIdeal := fun m g _ =>
  (θ_run _ _ _).mono (fun r h => ⟨fun c => (h c).2.2.2, sem_eq_zero_of_no_sems rfl r.2⟩) (Cert.ReferenceIdeal.Value.run m g)

theorem frame_R_pre [Cert.Pre_finite.Facts] : Cert.quiescent_ReferenceIdeal_pre_finite := fun m g _ => frame_R m g trivial

theorem claim : Cert.Claim := ⟨Cert.Kernel.Gen.facts, Cert.KernelIdeal.Gen.facts, Cert.ReferenceIdeal.Gen.facts, Cert.Pre_finite.facts,
  fun m g _ => Cert.Kernel.Gen.frame m g, fun m g _ => Cert.KernelIdeal.Gen.frame m g, fun m g _ => Cert.KernelIdeal.Gen.frame m g,
  frame_R, @frame_R_pre Cert.Pre_finite.facts, trivial, Cert.Final.algebraic⟩

end Cert.Proof

end
